-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_expert_tables : Cert.Pre_expert_tables.Facts] (m : (ℓ : Loc Cert.Kernel3.nD Cert.Kernel3.τ Cert.Kernel3.sig) → Buf (Elt Bits) ℓ) : Prop :=
  ∀ c : Dev Cert.Kernel3.nD,
    (Cert.Pre_expert_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_expert_tables : Cert.Pre_expert_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_expert_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_expert_tables [hPre_expert_tables : Cert.Pre_expert_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_expert_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] [hPre_expert_tables : Cert.Pre_expert_tables.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_expert_tables : Cert.Pre_expert_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_expert_tables [hReference3Ideal : Cert.Reference3Ideal.Facts] [hPre_expert_tables : Cert.Pre_expert_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_expert_tables m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] [hPre_expert_tables : Cert.Pre_expert_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_expert_tables : Cert.Pre_expert_tables.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_expert_tables := hPre_expert_tables)
    ∧ quiescent_Kernel3Ideal (hKernel3Ideal := hKernel3Ideal) (hPre_expert_tables := hPre_expert_tables)
    ∧ quiescent_Reference3Ideal (hReference3Ideal := hReference3Ideal)
    ∧ quiescent_Reference3Ideal_pre_expert_tables (hReference3Ideal := hReference3Ideal) (hPre_expert_tables := hPre_expert_tables)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_expert_tables := hPre_expert_tables)
-- ==== Pre_expert_tables.lean ====
abbrev S576 : Shape := ⟨1, ![576]⟩
abbrev S1 : Shape := ⟨1, ![1]⟩
abbrev S147456x1024 : Shape := ⟨2, ![147456, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩

class Facts : Prop where
  bcast_S_S576 : S_.BroadcastsInDim S576 (![] : Fin 0 → Fin S576.rank)
  bcast_S_S1 : S_.BroadcastsInDim S1 (![] : Fin 0 → Fin S1.rank)
  bcast_S1_S576_0 : S1.BroadcastsInDim S576 (![0] : Fin 1 → Fin S576.rank)

variable [Facts]

def fn {F : FTy → Type} [FloatOps F] (main_arg0 : IVec S576 32) (main_arg1 : IVec S1 32) (main_arg2 : FVec F S147456x1024 .f32) (main_arg3 : FVec F S4x32x1024x2048 .f32) (main_arg4 : FVec F S4x32x2048 .f32) (main_arg5 : FVec F S4x32x1024x1024 .f32) (main_arg6 : FVec F S4x32x1024 .f32) : IVec S576 1 :=
  let main_c : IVec S_ 32 := constantI S_ 32 0#32
  let main_v0 : IVec S576 32 := broadcastInDim S576 ![] bcast_S_S576 main_c
  let main_v1 : IVec S576 1 := cmpi .sge main_arg0 main_v0
  let main_c_0 : IVec S_ 32 := constantI S_ 32 32#32
  let main_v2 : IVec S576 32 := broadcastInDim S576 ![] bcast_S_S576 main_c_0
  let main_v3 : IVec S576 1 := cmpi .slt main_arg0 main_v2
  let main_v4 : IVec S576 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S576 1 := broadcastInDim S576 ![0] bcast_S1_S576_0 main_v6
  let main_v8 : IVec S576 1 := andi main_v4 main_v7
  main_v8
-- ==== Pre_finite_scores.lean ====
abbrev S8x4352x8x96 : Shape := ⟨4, ![8, 4352, 8, 96]⟩
abbrev S8x4352x8x64 : Shape := ⟨4, ![8, 4352, 8, 64]⟩
abbrev S_ : Shape := ⟨0, ![]⟩

class Facts : Prop where
  bcast_S_S8x4352x8x96 : S_.BroadcastsInDim S8x4352x8x96 (![] : Fin 0 → Fin S8x4352x8x96.rank)

variable [Facts]

def fn {F : FTy → Type} [FloatOps F] (main_arg0 : FVec F S8x4352x8x96 .f32) (main_arg1 : FVec F S8x4352x8x96 .f32) (main_arg2 : FVec F S8x4352x8x64 .f32) : IVec S8x4352x8x96 1 :=
  let main_v0 : FVec F S8x4352x8x96 .f32 := Host.absf main_arg0
  let main_cst : FVec F S_ .f32 := constant S_ .f32 0x7F800000#32
  let main_v1 : FVec F S8x4352x8x96 .f32 := broadcastInDim S8x4352x8x96 ![] bcast_S_S8x4352x8x96 main_cst
  let main_v2 : IVec S8x4352x8x96 1 := cmpf .olt main_v0 main_v1
  let main_v3 : FVec F S8x4352x8x96 .f32 := Host.absf main_arg1
  let main_cst_0 : FVec F S_ .f32 := constant S_ .f32 0x7F800000#32
  let main_v4 : FVec F S8x4352x8x96 .f32 := broadcastInDim S8x4352x8x96 ![] bcast_S_S8x4352x8x96 main_cst_0
  let main_v5 : IVec S8x4352x8x96 1 := cmpf .olt main_v3 main_v4
  let main_v6 : IVec S8x4352x8x96 1 := andi main_v2 main_v5
  main_v6
-- ==== Kernel.lean ====
abbrev S8x4352x8x96 : Shape := ⟨4, ![8, 4352, 8, 96]⟩
abbrev S8x4352x8x64 : Shape := ⟨4, ![8, 4352, 8, 64]⟩
abbrev S_ : Shape := ⟨0, ![]⟩
abbrev S8x4352x8x32 : Shape := ⟨4, ![8, 4352, 8, 32]⟩
abbrev S8x4352x8x128 : Shape := ⟨4, ![8, 4352, 8, 128]⟩
abbrev S8x4352x1024 : Shape := ⟨3, ![8, 4352, 1024]⟩
abbrev S8x4352x4x2x64 : Shape := ⟨5, ![8, 4352, 4, 2, 64]⟩
abbrev S8x4352x4x1 : Shape := ⟨4, ![8, 4352, 4, 1]⟩
abbrev S8x4352x4x63 : Shape := ⟨4, ![8, 4352, 4, 63]⟩
abbrev S8x4352x4x1x64 : Shape := ⟨5, ![8, 4352, 4, 1, 64]⟩
abbrev S8x4352x4x64 : Shape := ⟨4, ![8, 4352, 4, 64]⟩
abbrev S8x4352x4x128 : Shape := ⟨4, ![8, 4352, 4, 128]⟩
abbrev S8x4352x4x1x128 : Shape := ⟨5, ![8, 4352, 4, 1, 128]⟩
abbrev S8x4352x4x2x128 : Shape := ⟨5, ![8, 4352, 4, 2, 128]⟩
abbrev S8x4352x512 : Shape := ⟨3, ![8, 4352, 512]⟩
abbrev S1x256x512 : Shape := ⟨3, ![1, 256, 512]⟩
abbrev S1x4352x512 : Shape := ⟨3, ![1, 4352, 512]⟩
abbrev S1x256x256 : Shape := ⟨3, ![1, 256, 256]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x4352x128 : Shape := ⟨3, ![1, 4352, 128]⟩
abbrev S4352x128 : Shape := ⟨2, ![4352, 128]⟩
abbrev S256x4352 : Shape := ⟨2, ![256, 4352]⟩

abbrev nBuf : Space → Nat
  | .hbm => 35
  | .vmem => 8
  | .smem => 0
  | _ => 0

abbrev bufTy : (tb : Table) → Fin (tcTables nBuf tb) → BufTy
  | .hbm, ⟨0, _⟩ => ⟨S8x4352x8x96, .f32⟩
  | .hbm, ⟨1, _⟩ => ⟨S8x4352x8x96, .f32⟩
  | .hbm, ⟨2, _⟩ => ⟨S8x4352x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4352x8x32, .f32⟩
  | .hbm, ⟨10, _⟩ => ⟨S8x4352x8x96, .f32⟩
  | .hbm, ⟨11, _⟩ => ⟨S8x4352x8x96, .f32⟩
  | .hbm, ⟨12, _⟩ => ⟨S8x4352x8x128, .f32⟩
  | .hbm, ⟨13, _⟩ => ⟨S8x4352x8x128, .bf16⟩
  | .hbm, ⟨14, _⟩ => ⟨S8x4352x1024, .bf16⟩
  | .hbm, ⟨15, _⟩ => ⟨S8x4352x8x128, .f32⟩
  | .hbm, ⟨16, _⟩ => ⟨S8x4352x8x128, .bf16⟩
  | .hbm, ⟨17, _⟩ => ⟨S8x4352x1024, .bf16⟩
  | .hbm, ⟨18, _⟩ => ⟨S8x4352x4x2x64, .f32⟩
  | .hbm, ⟨19, _⟩ => ⟨S_, .f32⟩
  | .hbm, ⟨20, _⟩ => ⟨S8x4352x4x1, .f32⟩
  | .hbm, ⟨21, _⟩ => ⟨S_, .f32⟩
  | .hbm, ⟨22, _⟩ => ⟨S8x4352x4x63, .f32⟩
  | .hbm, ⟨23, _⟩ => ⟨S8x4352x4x1x64, .f32⟩
  | .hbm, ⟨24, _⟩ => ⟨S8x4352x4x64, .f32⟩
  | .hbm, ⟨25, _⟩ => ⟨S8x4352x4x128, .f32⟩
  | .hbm, ⟨26, _⟩ => ⟨S8x4352x4x1x64, .f32⟩
  | .hbm, ⟨27, _⟩ => ⟨S8x4352x4x64, .f32⟩
  | .hbm, ⟨28, _⟩ => ⟨S8x4352x4x128, .f32⟩
  | .hbm, ⟨29, _⟩ => ⟨S8x4352x4x1x128, .f32⟩
  | .hbm, ⟨30, _⟩ => ⟨S8x4352x4x1x128, .f32⟩
  | .hbm, ⟨31, _⟩ => ⟨S8x4352x4x2x128, .f32⟩
  | .hbm, ⟨32, _⟩ => ⟨S8x4352x4x2x128, .bf16⟩
  | .hbm, ⟨33, _⟩ => ⟨S8x4352x1024, .bf16⟩
  | .hbm, ⟨34, _⟩ => ⟨S8x4352x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x4352x512, .bf16⟩
  | .local _ .vmem, ⟨3, _⟩ => ⟨S1x4352x512, .bf16⟩
  | .local _ .vmem, ⟨4, _⟩ => ⟨S1x4352x512, .bf16⟩
  | .local _ .vmem, ⟨5, _⟩ => ⟨S1x4352x512, .bf16⟩
  | .local _ .vmem, ⟨6, _⟩ => ⟨S1x256x256, .bf16⟩
  | .local _ .vmem, ⟨7, _⟩ => ⟨S1x256x256, .bf16⟩
  | _, _ => ⟨S8x4352x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 17], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .ne arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4352x8x96 : Shape := ⟨4, ![8, 4352, 8, 96]⟩
abbrev S8x4352x8x64 : Shape := ⟨4, ![8, 4352, 8, 64]⟩
abbrev S8x256x8x96 : Shape := ⟨4, ![8, 256, 8, 96]⟩
abbrev S8x256x8x64 : Shape := ⟨4, ![8, 256, 8, 64]⟩
abbrev S8x8x256x256 : Shape := ⟨4, ![8, 8, 256, 256]⟩
abbrev S_ : Shape := ⟨0, ![]⟩
abbrev S8x8x256 : Shape := ⟨3, ![8, 8, 256]⟩
abbrev S8x8x256x1 : Shape := ⟨4, ![8, 8, 256, 1]⟩
abbrev S8x8x64x256 : Shape := ⟨4, ![8, 8, 64, 256]⟩
abbrev S8x4096x8x96 : Shape := ⟨4, ![8, 4096, 8, 96]⟩
abbrev S8x8x4096x4352 : Shape := ⟨4, ![8, 8, 4096, 4352]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x8x64 : Shape := ⟨4, ![8, 4096, 8, 64]⟩
abbrev S8x4352x512 : Shape := ⟨3, ![8, 4352, 512]⟩

abbrev nBuf : Space → Nat
  | .hbm => 52
  | .vmem => 0
  | .smem => 0
  | _ => 0

abbrev bufTy : (tb : Table) → Fin (tcTables nBuf tb) → BufTy
  | .hbm, ⟨0, _⟩ => ⟨S8x4352x8x96, .f32⟩
  | .hbm, ⟨1, _⟩ => ⟨S8x4352x8x96, .f32⟩
  | .hbm, ⟨2, _⟩ => ⟨S8x4352x8x64, .f32⟩
  | .hbm, ⟨3, _⟩ => ⟨S8x256x8x96, .f32⟩
  | .hbm, ⟨4, _⟩ => ⟨S8x256x8x96, .f32⟩
  | .hbm, ⟨5, _⟩ => ⟨S8x256x8x64, .f32⟩
  | .hbm, ⟨6, _⟩ => ⟨S8x8x256x256, .f32⟩
  | .hbm, ⟨7, _⟩ => ⟨S_, .f32⟩
  | .hbm, ⟨8, _⟩ => ⟨S_, .f32⟩
  | .hbm, ⟨9, _⟩ => ⟨S8x8x256x256, .f32⟩
  | .hbm, ⟨10, _⟩ => ⟨S8x8x256x256, .f32⟩
  | .hbm, ⟨11, _⟩ => ⟨S_, .f32⟩
  | .hbm, ⟨12, _⟩ => ⟨S8x8x256, .f32⟩
  | .hbm, ⟨13, _⟩ => ⟨S_, .f32⟩
  | .hbm, ⟨14, _⟩ => ⟨S8x8x256, .f32⟩
  | .hbm, ⟨15, _⟩ => ⟨S8x8x256, .f32⟩
  | .hbm, ⟨16, _⟩ => ⟨S8x8x256x1, .f32⟩
  | .hbm, ⟨17, _⟩ => ⟨S8x8x256x256, .f32⟩
  | .hbm, ⟨18, _⟩ => ⟨S8x8x256x256, .f32⟩
  | .hbm, ⟨19, _⟩ => ⟨S8x8x256x256, .f32⟩
  | .hbm, ⟨20, _⟩ => ⟨S_, .f32⟩
  | .hbm, ⟨21, _⟩ => ⟨S8x8x256, .f32⟩
  | .hbm, ⟨22, _⟩ => ⟨S8x8x256x1, .f32⟩
  | .hbm, ⟨23, _⟩ => ⟨S8x8x256x256, .f32⟩
  | .hbm, ⟨24, _⟩ => ⟨S8x8x256x256, .f32⟩
  | .hbm, ⟨25, _⟩ => ⟨S8x8x64x256, .f32⟩
  | .hbm, ⟨26, _⟩ => ⟨S8x256x8x64, .f32⟩
  | .hbm, ⟨27, _⟩ => ⟨S8x4096x8x96, .f32⟩
  | .hbm, ⟨28, _⟩ => ⟨S8x8x4096x4352, .f32⟩
  | .hbm, ⟨29, _⟩ => ⟨S_, .f32⟩
  | .hbm, ⟨30, _⟩ => ⟨S_, .f32⟩
  | .hbm, ⟨31, _⟩ => ⟨S8x8x4096x4352, .f32⟩
  | .hbm, ⟨32, _⟩ => ⟨S8x8x4096x4352, .f32⟩
  | .hbm, ⟨33, _⟩ => ⟨S_, .f32⟩
  | .hbm, ⟨34, _⟩ => ⟨S8x8x4096, .f32⟩
  | .hbm, ⟨35, _⟩ => ⟨S_, .f32⟩
  | .hbm, ⟨36, _⟩ => ⟨S8x8x4096, .f32⟩
  | .hbm, ⟨37, _⟩ => ⟨S8x8x4096, .f32⟩
  | .hbm, ⟨38, _⟩ => ⟨S8x8x4096x1, .f32⟩
  | .hbm, ⟨39, _⟩ => ⟨S8x8x4096x4352, .f32⟩
  | .hbm, ⟨40, _⟩ => ⟨S8x8x4096x4352, .f32⟩
  | .hbm, ⟨41, _⟩ => ⟨S8x8x4096x4352, .f32⟩
  | .hbm, ⟨42, _⟩ => ⟨S_, .f32⟩
  | .hbm, ⟨43, _⟩ => ⟨S8x8x4096, .f32⟩
  | .hbm, ⟨44, _⟩ => ⟨S8x8x4096x1, .f32⟩
  | .hbm, ⟨45, _⟩ => ⟨S8x8x4096x4352, .f32⟩
  | .hbm, ⟨46, _⟩ => ⟨S8x8x4096x4352, .f32⟩
  | .hbm, ⟨47, _⟩ => ⟨S8x8x64x4096, .f32⟩
  | .hbm, ⟨48, _⟩ => ⟨S8x4096x8x64, .f32⟩
  | .hbm, ⟨49, _⟩ => ⟨S8x4352x8x64, .f32⟩
  | .hbm, ⟨50, _⟩ => ⟨S8x4352x512, .f32⟩
  | .hbm, ⟨51, _⟩ => ⟨S8x4352x512, .bf16⟩
  | _, _ => ⟨S8x4352x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel2.lean ====
abbrev S8x4352x1024 : Shape := ⟨3, ![8, 4352, 1024]⟩
abbrev S1024 : Shape := ⟨1, ![1024]⟩
abbrev S1x1024 : Shape := ⟨2, ![1, 1024]⟩
abbrev S8x4096x1024 : Shape := ⟨3, ![8, 4096, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8x4352x1024, .f32⟩
  | .hbm, ⟨1, _⟩ => ⟨S1024, .f32⟩
  | .hbm, ⟨2, _⟩ => ⟨S1x1024, .f32⟩
  | .hbm, ⟨3, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8x4352x1024 : Shape := ⟨3, ![8, 4352, 1024]⟩
abbrev S1024 : Shape := ⟨1, ![1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S1024, .f32⟩
  | .hbm, ⟨2, _⟩ => ⟨S8x4096x1024, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel3.lean ====
abbrev S576 : Shape := ⟨1, ![576]⟩
abbrev S1 : Shape := ⟨1, ![1]⟩
abbrev S147456x1024 : Shape := ⟨2, ![147456, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S1179648x128 : Shape := ⟨2, ![1179648, 128]⟩
abbrev S4x32x1x2048 : Shape := ⟨4, ![4, 32, 1, 2048]⟩
abbrev S4x32x1x1024 : Shape := ⟨4, ![4, 32, 1, 1024]⟩
abbrev S2048x128 : Shape := ⟨2, ![2048, 128]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S256x128 : Shape := ⟨2, ![256, 128]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 9
  | .vmem => 14
  | .smem => 2
  | _ => 0

abbrev bufTy : (tb : Table) → Fin (tcTables nBuf tb) → BufTy
  | .hbm, ⟨0, _⟩ => ⟨S147456x1024, .f32⟩
  | .hbm, ⟨1, _⟩ => ⟨S4x32x1024x2048, .f32⟩
  | .hbm, ⟨2, _⟩ => ⟨S4x32x2048, .f32⟩
  | .hbm, ⟨3, _⟩ => ⟨S4x32x1024x1024, .f32⟩
  | .hbm, ⟨4, _⟩ => ⟨S4x32x1024, .f32⟩
  | .hbm, ⟨5, _⟩ => ⟨S1179648x128, .f32⟩
  | .hbm, ⟨6, _⟩ => ⟨S4x32x1x2048, .f32⟩
  | .hbm, ⟨7, _⟩ => ⟨S4x32x1x1024, .f32⟩
  | .hbm, ⟨8, _⟩ => ⟨S1179648x128, .f32⟩
  | .local _ .vmem, ⟨0, _⟩ => ⟨S2048x128, .f32⟩
  | .local _ .vmem, ⟨1, _⟩ => ⟨S2048x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S2048x128, .f32⟩
  | .local _ .vmem, ⟨11, _⟩ => ⟨S2048x128, .f32⟩
  | .local _ .vmem, ⟨12, _⟩ => ⟨S1024x2048, .bf16⟩
  | .local _ .vmem, ⟨13, _⟩ => ⟨S1024x1024, .bf16⟩
  | .local _ .smem, ⟨0, _⟩ => ⟨S576, .i32⟩
  | .local _ .smem, ⟨1, _⟩ => ⟨S1, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![576], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v8 : BitVec 32 := Scalar.subi arg0 c1_i32
  let c0_i32_2 : BitVec 32 := 0#32
  let v9 : BitVec 32 := Scalar.maxsi v8 c0_i32_2
  let v10 : Index := Scalar.indexCast v9
  ![v10.toNat]
def k0_off3 (i : grid0.Coords) : Fin 1 → Nat :=
  let arg0 : BitVec 32 := BitVec.ofNat 32 (i 0).val
  let v13 : Index := Scalar.indexCast arg0
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_2 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_3 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_4 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S576 : Shape := ⟨1, ![576]⟩
abbrev S1 : Shape := ⟨1, ![1]⟩
abbrev S147456x1024 : Shape := ⟨2, ![147456, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S576x256x1024 : Shape := ⟨3, ![576, 256, 1024]⟩
abbrev S1x32x1024x2048 : Shape := ⟨4, ![1, 32, 1024, 2048]⟩
abbrev S32x1024x2048 : Shape := ⟨3, ![32, 1024, 2048]⟩
abbrev S_ : Shape := ⟨0, ![]⟩
abbrev S576x1 : Shape := ⟨2, ![576, 1]⟩
abbrev S576x1024x2048 : Shape := ⟨3, ![576, 1024, 2048]⟩
abbrev S576x256x2048 : Shape := ⟨3, ![576, 256, 2048]⟩
abbrev S1x32x2048 : Shape := ⟨3, ![1, 32, 2048]⟩
abbrev S32x2048 : Shape := ⟨2, ![32, 2048]⟩
abbrev S576x2048 : Shape := ⟨2, ![576, 2048]⟩
abbrev S576x1x2048 : Shape := ⟨3, ![576, 1, 2048]⟩
abbrev S1x32x1024x1024 : Shape := ⟨4, ![1, 32, 1024, 1024]⟩
abbrev S32x1024x1024 : Shape := ⟨3, ![32, 1024, 1024]⟩
abbrev S576x1024x1024 : Shape := ⟨3, ![576, 1024, 1024]⟩
abbrev S1x32x1024 : Shape := ⟨3, ![1, 32, 1024]⟩
abbrev S32x1024 : Shape := ⟨2, ![32, 1024]⟩
abbrev S576x1024 : Shape := ⟨2, ![576, 1024]⟩
abbrev S576x1x1024 : Shape := ⟨3, ![576, 1, 1024]⟩
abbrev S576x1x1 : Shape := ⟨3, ![576, 1, 1]⟩
abbrev S1x1x1 : Shape := ⟨3, ![1, 1, 1]⟩
abbrev S1179648x128 : Shape := ⟨2, ![1179648, 128]⟩

abbrev nBuf : Space → Nat
  | .hbm => 100
  | .vmem => 0
  | .smem => 0
  | _ => 0

abbrev bufTy : (tb : Table) → Fin (tcTables nBuf tb) → BufTy
  | .hbm, ⟨0, _⟩ => ⟨S576, .i32⟩
  | .hbm, ⟨1, _⟩ => ⟨S1, .i32⟩
  | .hbm, ⟨2, _⟩ => ⟨S147456x1024, .f32⟩
  | .hbm, ⟨3, _⟩ => ⟨S4x32x1024x2048, .f32⟩
  | .hbm, ⟨4, _⟩ => ⟨S4x32x2048, .f32⟩
  | .hbm, ⟨5, _⟩ => ⟨S4x32x1024x1024, .f32⟩
  | .hbm, ⟨6, _⟩ => ⟨S4x32x1024, .f32⟩
  | .hbm, ⟨7, _⟩ => ⟨S576x256x1024, .f32⟩
  | .hbm, ⟨8, _⟩ => ⟨S1x32x1024x2048, .f32⟩
  | .hbm, ⟨9, _⟩ => ⟨S32x1024x2048, .f32⟩
  | .hbm, ⟨10, _⟩ => ⟨S_, .i32⟩
  | .hbm, ⟨11, _⟩ => ⟨S576, .i32⟩
  | .hbm, ⟨12, _⟩ => ⟨S576, .i1⟩
  | .hbm, ⟨13, _⟩ => ⟨S_, .i32⟩
  | .hbm, ⟨14, _⟩ => ⟨S576, .i32⟩
  | .hbm, ⟨15, _⟩ => ⟨S576, .i32⟩
  | .hbm, ⟨16, _⟩ => ⟨S576, .i32⟩
  | .hbm, ⟨17, _⟩ => ⟨S576x1, .i32⟩
  | .hbm, ⟨18, _⟩ => ⟨S576x1024x2048, .f32⟩
  | .hbm, ⟨19, _⟩ => ⟨S576x256x2048, .f32⟩
  | .hbm, ⟨20, _⟩ => ⟨S1x32x2048, .f32⟩
  | .hbm, ⟨21, _⟩ => ⟨S32x2048, .f32⟩
  | .hbm, ⟨22, _⟩ => ⟨S_, .i32⟩
  | .hbm, ⟨23, _⟩ => ⟨S576, .i32⟩
  | .hbm, ⟨24, _⟩ => ⟨S576, .i1⟩
  | .hbm, ⟨25, _⟩ => ⟨S_, .i32⟩
  | .hbm, ⟨26, _⟩ => ⟨S576, .i32⟩
  | .hbm, ⟨27, _⟩ => ⟨S576, .i32⟩
  | .hbm, ⟨28, _⟩ => ⟨S576, .i32⟩
  | .hbm, ⟨29, _⟩ => ⟨S576x1, .i32⟩
  | .hbm, ⟨30, _⟩ => ⟨S576x2048, .f32⟩
  | .hbm, ⟨31, _⟩ => ⟨S576x1x2048, .f32⟩
  | .hbm, ⟨32, _⟩ => ⟨S576x256x2048, .f32⟩
  | .hbm, ⟨33, _⟩ => ⟨S576x256x2048, .f32⟩
  | .hbm, ⟨34, _⟩ => ⟨S576x256x1024, .f32⟩
  | .hbm, ⟨35, _⟩ => ⟨S576x256x1024, .f32⟩
  | .hbm, ⟨36, _⟩ => ⟨S_, .f32⟩
  | .hbm, ⟨37, _⟩ => ⟨S576x256x1024, .f32⟩
  | .hbm, ⟨38, _⟩ => ⟨S576x256x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S576x256x1024, .f32⟩
  | .hbm, ⟨43, _⟩ => ⟨S576x256x1024, .f32⟩
  | .hbm, ⟨44, _⟩ => ⟨S_, .f32⟩
  | .hbm, ⟨45, _⟩ => ⟨S576x256x1024, .f32⟩
  | .hbm, ⟨46, _⟩ => ⟨S576x256x1024, .f32⟩
  | .hbm, ⟨47, _⟩ => ⟨S_, .f32⟩
  | .hbm, ⟨48, _⟩ => ⟨S576x256x1024, .f32⟩
  | .hbm, ⟨49, _⟩ => ⟨S576x256x1024, .f32⟩
  | .hbm, ⟨50, _⟩ => ⟨S576x256x1024, .f32⟩
  | .hbm, ⟨51, _⟩ => ⟨S576x256x1024, .f32⟩
  | .hbm, ⟨52, _⟩ => ⟨S_, .f32⟩
  | .hbm, ⟨53, _⟩ => ⟨S576x256x1024, .f32⟩
  | .hbm, ⟨54, _⟩ => ⟨S576x256x1024, .f32⟩
  | .hbm, ⟨55, _⟩ => ⟨S_, .f32⟩
  | .hbm, ⟨56, _⟩ => ⟨S576x256x1024, .f32⟩
  | .hbm, ⟨57, _⟩ => ⟨S576x256x1024, .f32⟩
  | .hbm, ⟨58, _⟩ => ⟨S576x256x1024, .f32⟩
  | .hbm, ⟨59, _⟩ => ⟨S_, .f32⟩
  | .hbm, ⟨60, _⟩ => ⟨S576x256x1024, .f32⟩
  | .hbm, ⟨61, _⟩ => ⟨S576x256x1024, .f32⟩
  | .hbm, ⟨62, _⟩ => ⟨S576x256x1024, .f32⟩
  | .hbm, ⟨63, _⟩ => ⟨S1x32x1024x1024, .f32⟩
  | .hbm, ⟨64, _⟩ => ⟨S32x1024x1024, .f32⟩
  | .hbm, ⟨65, _⟩ => ⟨S_, .i32⟩
  | .hbm, ⟨66, _⟩ => ⟨S576, .i32⟩
  | .hbm, ⟨67, _⟩ => ⟨S576, .i1⟩
  | .hbm, ⟨68, _⟩ => ⟨S_, .i32⟩
  | .hbm, ⟨69, _⟩ => ⟨S576, .i32⟩
  | .hbm, ⟨70, _⟩ => ⟨S576, .i32⟩
  | .hbm, ⟨71, _⟩ => ⟨S576, .i32⟩
  | .hbm, ⟨72, _⟩ => ⟨S576x1, .i32⟩
  | .hbm, ⟨73, _⟩ => ⟨S576x1024x1024, .f32⟩
  | .hbm, ⟨74, _⟩ => ⟨S576x256x1024, .f32⟩
  | .hbm, ⟨75, _⟩ => ⟨S1x32x1024, .f32⟩
  | .hbm, ⟨76, _⟩ => ⟨S32x1024, .f32⟩
  | .hbm, ⟨77, _⟩ => ⟨S_, .i32⟩
  | .hbm, ⟨78, _⟩ => ⟨S576, .i32⟩
  | .hbm, ⟨79, _⟩ => ⟨S576, .i1⟩
  | .hbm, ⟨80, _⟩ => ⟨S_, .i32⟩
  | .hbm, ⟨81, _⟩ => ⟨S576, .i32⟩
  | .hbm, ⟨82, _⟩ => ⟨S576, .i32⟩
  | .hbm, ⟨83, _⟩ => ⟨S576, .i32⟩
  | .hbm, ⟨84, _⟩ => ⟨S576x1, .i32⟩
  | .hbm, ⟨85, _⟩ => ⟨S576x1024, .f32⟩
  | .hbm, ⟨86, _⟩ => ⟨S576x1x1024, .f32⟩
  | .hbm, ⟨87, _⟩ => ⟨S576x256x1024, .f32⟩
  | .hbm, ⟨88, _⟩ => ⟨S576x256x1024, .f32⟩
  | .hbm, ⟨89, _⟩ => ⟨S576, .i32⟩
  | .hbm, ⟨90, _⟩ => ⟨S576x1x1, .i32⟩
  | .hbm, ⟨91, _⟩ => ⟨S1x1x1, .i32⟩
  | .hbm, ⟨92, _⟩ => ⟨S576x1x1, .i32⟩
  | .hbm, ⟨93, _⟩ => ⟨S576x1x1, .i1⟩
  | .hbm, ⟨94, _⟩ => ⟨S_, .f32⟩
  | .hbm, ⟨95, _⟩ => ⟨S_, .f32⟩
  | .hbm, ⟨96, _⟩ => ⟨S576x256x1024, .i1⟩
  | .hbm, ⟨97, _⟩ => ⟨S576x256x1024, .f32⟩
  | .hbm, ⟨98, _⟩ => ⟨S576x256x1024, .f32⟩
  | .hbm, ⟨99, _⟩ => ⟨S1179648x128, .f32⟩
  | _, _ => ⟨S576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Proof.AttentionFrames.lean ====
/- The frames of the attention programs: the generated ones for the kernel and its idealization, the host run's for
   the reference. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.AttentionFrames

open Idealize.ShloMosaic Idealize.SL.Sem

theorem kernel : Cert.quiescent_Kernel := fun m ρ _ => Cert.Kernel.Gen.frame m ρ
theorem ideal : Cert.quiescent_KernelIdeal := fun m ρ _ => Cert.KernelIdeal.Gen.frame m ρ
theorem reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem preserves : Cert.preserves_Kernel_KernelIdeal := trivial

end Cert.AttentionFrames

end
-- ==== Proof.Softmax.lean ====
/- One row of attention over the extended reals. The kernel's form takes powers of two of scores already divided by
   the logarithm of two, and divides one weighted sum by another; the textbook's form takes exponentials, divides each
   by their sum, and then weighs. Where the scores are finite the two are equal. -/
module

public import Idealize.ShloMosaic.Lib.Pointwise

@[expose] public section

noncomputable section

namespace Cert.Softmax

open Idealize.ShloMosaic

variable {n d : ℕ}

/-- The kernel's row: `s` the scores, `v` the values' lane, `o` the lane of ones. -/
def kernelRow (s v o : Fin n → EReal) : EReal :=
  Ideal.div (∑ κ, Ideal.exp2 (s κ - Finset.univ.fold max ⊥ s) * v κ)
    (∑ κ, Ideal.exp2 (s κ - Finset.univ.fold max ⊥ s) * o κ)

/-- The textbook's row. -/
def textbookRow (s v : Fin n → EReal) : EReal :=
  ∑ κ, v κ * Ideal.div (Ideal.exp (s κ - max ⊥ (Finset.univ.fold max ⊥ s)))
    (∑ κ', Ideal.exp (s κ' - max ⊥ (Finset.univ.fold max ⊥ s)))

/-- A sum of finite numbers is finite. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A finite factor that is not negative goes into a sum. -/
theorem sum_mul_coe {ι : Type} (t : Finset ι) (f : ι → EReal) {c : ℝ} (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- The greatest of finitely many finite numbers, at least one, is finite. -/
theorem fold_max_coe [NeZero n] (f : Fin n → ℝ) :
    Finset.univ.fold max ⊥ (fun κ => (f κ : EReal)) = ((Finset.univ.sup' Finset.univ_nonempty f : ℝ) : EReal) := by
  have h : Finset.univ.fold max ⊥ (fun κ => (f κ : EReal)) = Finset.univ.sup (fun κ => (f κ : EReal)) := rfl
  rw [h, ← Finset.sup'_eq_sup Finset.univ_nonempty]
  exact (Finset.comp_sup'_eq_sup'_comp Finset.univ_nonempty (fun r : ℝ => (r : EReal))
    (fun a b => (EReal.coe_strictMono.monotone.map_max (a := a) (b := b)))).symm

/-- The two rows are equal: `s` finite scores, divided by the logarithm of two for the kernel. -/
theorem row_eq [NeZero n] (s : Fin n → ℝ) (v : Fin n → EReal) :
    kernelRow (fun κ => ((s κ / Real.log 2 : ℝ) : EReal)) v (fun _ => 1) = textbookRow (fun κ => (s κ : EReal)) v := by
  have hl : 0 < Real.log 2 := Real.log_pos (by norm_num)
  obtain ⟨M, hM⟩ : ∃ M, M = Finset.univ.sup' Finset.univ_nonempty s := ⟨_, rfl⟩
  have hM' : Finset.univ.sup' Finset.univ_nonempty (fun κ => s κ / Real.log 2) = M / Real.log 2 := by
    rw [hM]
    exact (Finset.comp_sup'_eq_sup'_comp Finset.univ_nonempty (fun r : ℝ => r / Real.log 2)
      (fun a b => ((monotone_div_right_of_nonneg hl.le).map_max (a := a) (b := b)))).symm
  have hp : ∀ κ, Ideal.exp2 (((s κ / Real.log 2 : ℝ) : EReal) - ((M / Real.log 2 : ℝ) : EReal)) = ((Real.exp (s κ - M) : ℝ) : EReal) := by
    intro κ
    rw [← EReal.coe_sub, Ideal.exp2_coe]
    refine congrArg _ ?_
    show (2 : ℝ) ^ (s κ / Real.log 2 - M / Real.log 2) = _
    rw [Real.rpow_def_of_pos (by norm_num)]
    congr 1
    field_simp
  have hS : 0 < ∑ κ, Real.exp (s κ - M) := Finset.sum_pos (fun κ _ => Real.exp_pos _) Finset.univ_nonempty
  unfold kernelRow textbookRow
  rw [fold_max_coe, fold_max_coe, hM', ← hM]
  simp only [hp]
  simp only [mul_one, max_bot_left, ← EReal.coe_sub, Ideal.exp_coe]
  rw [← coe_sum, Ideal.div_coe hS.ne', sum_mul_coe _ _ (by positivity)]
  refine Finset.sum_congr rfl fun κ _ => ?_
  rw [Ideal.div_coe hS.ne']
  ac_rfl

end Cert.Softmax

end
-- ==== Proof.AttentionBlock.lean ====
/- The attention kernel's block. -/
module

public import proofs.«01_k».proof.Proof.Softmax
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.AttentionBlock

open Cert.KernelIdeal Cert.KernelIdeal.Gen Idealize.ShloMosaic Cert.Softmax

/-- The score of row `r` and key `κ`. -/
def score {n : ℕ} (q : FVec Ideal S1x256x128 .bf16) (k : FVec Ideal ⟨3, ![1, n, 128]⟩ .bf16) (r : Fin 256) (κ : Fin n) : EReal :=
  ∑ d : Fin 128, q (ix3 0 r d) * k (ix3 0 κ d)

/-- The maximum's first value is the least number. -/
theorem negInf : Ideal.ofBits .f32 0xFF800000#32 = ⊥ := by
  simp [Ideal.ofBits, Ideal.ieee]

/-- One head's output: row `r`, lane `l`, the ones at lane `u`. -/
def headRow {n : ℕ} (q : FVec Ideal S1x256x128 .bf16) (k v : FVec Ideal ⟨3, ![1, n, 128]⟩ .bf16) (u : Fin 128) (r : Fin 256) (l : Fin 128) : EReal :=
  kernelRow (score q k r) (fun κ => v (ix3 0 κ l)) (fun κ => v (ix3 0 κ u))

theorem pay6 (q k v : FVec Ideal S1x256x128 .bf16) (r : Fin 256) (l : Fin 128) :
    k0_pay6 (F := Ideal) q k v (ix2 r l) = headRow (n := 256) q k v 64 r l := by
  unfold headRow kernelRow score
  pointwise [k0_pay6]
  rw [negInf]
  rfl

theorem pay9 (q k v : FVec Ideal S1x256x128 .bf16) (r : Fin 256) (l : Fin 128) :
    k0_pay9 (F := Ideal) (k0_pay5 q k) v (ix2 r l) = headRow (n := 256) q k v 64 r l := by
  unfold headRow kernelRow score
  pointwise [k0_pay9, k0_pay5]
  rw [negInf]
  rfl

theorem pay8 (q k v : FVec Ideal S1x256x128 .bf16) (r : Fin 256) (l : Fin 128) :
    k0_pay8 (F := Ideal) (k0_pay7 q k) v (ix2 r l) = headRow (n := 256) q k v 0 r l := by
  unfold headRow kernelRow score
  pointwise [k0_pay8, k0_pay7]
  rw [negInf]
  rfl

theorem pay10 (q k v : FVec Ideal S1x256x128 .bf16) (r : Fin 256) (l : Fin 128) :
    k0_pay10 (F := Ideal) q k v (ix2 r l) = headRow (n := 256) q k v 0 r l := by
  unfold headRow kernelRow score
  pointwise [k0_pay10]
  rw [negInf]
  rfl

theorem pay13 (q : FVec Ideal S1x256x128 .bf16) (k v : FVec Ideal S1x4352x128 .bf16) (r : Fin 256) (l : Fin 128) :
    k0_pay13 (F := Ideal) q k v (ix2 r l) = headRow (n := 4352) q k v 64 r l := by
  unfold headRow kernelRow score
  pointwise [k0_pay13]
  rw [negInf]
  rfl

theorem pay16 (q : FVec Ideal S1x256x128 .bf16) (k v : FVec Ideal S1x4352x128 .bf16) (r : Fin 256) (l : Fin 128) :
    k0_pay16 (F := Ideal) (k0_pay12 q k) v (ix2 r l) = headRow (n := 4352) q k v 64 r l := by
  unfold headRow kernelRow score
  pointwise [k0_pay16, k0_pay12]
  rw [negInf]
  rfl

theorem pay15 (q : FVec Ideal S1x256x128 .bf16) (k v : FVec Ideal S1x4352x128 .bf16) (r : Fin 256) (l : Fin 128) :
    k0_pay15 (F := Ideal) (k0_pay14 q k) v (ix2 r l) = headRow (n := 4352) q k v 0 r l := by
  unfold headRow kernelRow score
  pointwise [k0_pay15, k0_pay14]
  rw [negInf]
  rfl

theorem pay17 (q : FVec Ideal S1x256x128 .bf16) (k v : FVec Ideal S1x4352x128 .bf16) (r : Fin 256) (l : Fin 128) :
    k0_pay17 (F := Ideal) q k v (ix2 r l) = headRow (n := 4352) q k v 0 r l := by
  unfold headRow kernelRow score
  pointwise [k0_pay17]
  rw [negInf]
  rfl

/-- Where an even or an odd head's ones stand, and which head a lane of the block belongs to. -/
def headOf (l : Fin 256) : Fin 4 := ⟨2 * (l.val / 128) + l.val % 128 / 64, by omega⟩

/-- The block's entry at row `r` and lane `l`, attending to the first `n` keys. -/
def blockEntry (n : ℕ) (hn : n ≤ 4352) (x0 : FVec Ideal S1x256x512 .bf16) (x1 x2 : FVec Ideal S1x4352x512 .bf16) (r l : Fin 256) : EReal :=
  kernelRow
    (fun κ : Fin n => ∑ d : Fin 128, x0 (ix3 0 r (⟨(headOf l).val * 128 + d.val, by omega⟩ : Fin 512))
      * x1 (ix3 0 (⟨κ.val, by omega⟩ : Fin 4352) (⟨(headOf l).val * 128 + d.val, by omega⟩ : Fin 512)))
    (fun κ => x2 (ix3 0 (⟨κ.val, by omega⟩ : Fin 4352) (⟨(headOf l).val * 128 + l.val % 128, by omega⟩ : Fin 512)))
    (fun κ => x2 (ix3 0 (⟨κ.val, by omega⟩ : Fin 4352) (⟨(headOf l).val * 128 + if l.val % 128 < 64 then 64 else 0, by split <;> omega⟩ : Fin 512)))

/-- A head's row of the block, from loads of the head's 128 lanes. -/
theorem head_eq {n : ℕ} (hn : n ≤ 4352) {x0 : FVec Ideal S1x256x512 .bf16} {x1 x2 : FVec Ideal S1x4352x512 .bf16}
    {q : FVec Ideal S1x256x128 .bf16} {k v : FVec Ideal ⟨3, ![1, n, 128]⟩ .bf16} {u : Fin 128} {r : Fin 256} {l : Fin 128} (L : Fin 256)
    (hq : ∀ d : Fin 128, q (ix3 0 r d) = x0 (ix3 0 r (⟨(headOf L).val * 128 + d.val, by omega⟩ : Fin 512)))
    (hk : ∀ (κ : Fin n) (d : Fin 128), k (ix3 0 κ d)
      = x1 (ix3 0 (⟨κ.val, by omega⟩ : Fin 4352) (⟨(headOf L).val * 128 + d.val, by omega⟩ : Fin 512)))
    (hv : ∀ (κ : Fin n) (d : Fin 128), v (ix3 0 κ d)
      = x2 (ix3 0 (⟨κ.val, by omega⟩ : Fin 4352) (⟨(headOf L).val * 128 + d.val, by omega⟩ : Fin 512)))
    (hl : l.val = L.val % 128) (hu : u.val = if L.val % 128 < 64 then 64 else 0) :
    headRow q k v u r l = blockEntry n hn x0 x1 x2 r L := by
  unfold headRow blockEntry score
  simp only [hq, hk, hv, hl, hu]

variable (c : Dev nD) (i : grid0.Coords) (arg3 : Memref sig .tc .vmem S1x256x512 .bf16) (harg3 : arg3.IsWhole) (arg4 : Memref sig .tc .vmem S1x4352x512 .bf16) (harg4 : arg4.IsWhole) (arg5 : Memref sig .tc .vmem S1x4352x512 .bf16) (harg5 : arg5.IsWhole) (arg6 : Memref sig .tc .vmem S1x256x256 .bf16) (harg6 : arg6.IsWhole)
    (x0 : Vec Ideal S1x256x512 .bf16) (x1 x2 : Vec Ideal S1x4352x512 .bf16)

/-- A lane is below 64. -/
theorem lane_lt : ∀ l : Fin 128, IntOp.cmpi .slt (BitVec.ofNat 32 l.val) 64#32 = if l.val < 64 then 1#1 else 0#1 := by decide

theorem select_lane {α : Type} (l : Fin 128) (a b : α) :
    Scalar.select (IntOp.cmpi .slt (BitVec.ofNat 32 l.val) 64#32) a b = if l.val < 64 then a else b := by
  rw [lane_lt]
  split <;> rfl

theorem pay1 (a b : FVec Ideal S256x128 .f32) (r : Fin 256) (l : Fin 128) :
    k0_pay1 a b k0_pay11 (ix3 0 r l) = if l.val < 64 then a (ix2 r l) else b (ix2 r l) := by
  pointwise [k0_pay1, k0_pay11]
  exact select_lane _ _ _

theorem pay2 (a b : FVec Ideal S256x128 .f32) (r : Fin 256) (l : Fin 128) :
    k0_pay2 a b (iota .tc S256x128 32 [1] iota_S256x128_d1_w32) (ix3 0 r l) = if l.val < 64 then a (ix2 r l) else b (ix2 r l) := by
  pointwise [k0_pay2]
  exact select_lane _ _ _

theorem pay3 (a b : FVec Ideal S256x128 .f32) (r : Fin 256) (l : Fin 128) :
    k0_pay3 a b k0_pay18 (ix3 0 r l) = if l.val < 64 then a (ix2 r l) else b (ix2 r l) := by
  pointwise [k0_pay3, k0_pay18]
  exact select_lane _ _ _

theorem pay4 (a b : FVec Ideal S256x128 .f32) (r : Fin 256) (l : Fin 128) :
    k0_pay4 a b (iota .tc S256x128 32 [1] iota_S256x128_d1_w32) (ix3 0 r l) = if l.val < 64 then a (ix2 r l) else b (ix2 r l) := by
  pointwise [k0_pay4]
  exact select_lane _ _ _

/-- What the context rows' point leaves in its block. -/
theorem outA (hc0 : cond0_0 i) (hc1 : ¬cond0_1 i) (R L : Fin 256) :
    out0_A_3 c i arg3 harg3 arg4 harg4 arg5 harg5 arg6 harg6 hc0 hc1 x0 x1 x2 (ix3 0 R L)
      = blockEntry 256 (by decide) x0 x1 x2 R L := by
  frame_out
  canon_tiles x h
  all_goals
    obtain ⟨r, l, rfl⟩ : ∃ (r : Fin 256) (l : Fin 128), x = ix3 0 r l :=
      ⟨x 1, x 2, by rw [eq_ix3 x]; congr 1; exact Subsingleton.elim (α := Fin 1) _ _⟩
    obtain rfl : R = r := Fin.ext h1
    have hl : l.val < 128 := l.isLt
  · replace h2 : L.val = 128 + l.val := h2
    rw [pay2]
    split
    · rw [pay9]
      refine head_eq _ _ (fun d => ?_) (fun κ d => ?_) (fun κ d => ?_) (by omega) (by split <;> first | rfl | omega)
      all_goals
        refine View.ld_unit_apply_of _ _ _ _ _ _ fun a => ?_
        match a with
        | ⟨0, _⟩ => rfl
        | ⟨1, _⟩ => exact (Nat.zero_add _).symm
        | ⟨2, _⟩ => show (headOf L).val * 128 + d.val = 256 + d.val; unfold headOf; dsimp only; omega
    · rw [pay10]
      refine head_eq _ _ (fun d => ?_) (fun κ d => ?_) (fun κ d => ?_) (by omega) (by split <;> first | rfl | omega)
      all_goals
        refine View.ld_unit_apply_of _ _ _ _ _ _ fun a => ?_
        match a with
        | ⟨0, _⟩ => rfl
        | ⟨1, _⟩ => exact (Nat.zero_add _).symm
        | ⟨2, _⟩ => show (headOf L).val * 128 + d.val = 384 + d.val; unfold headOf; dsimp only; omega
  · replace h2 : L.val = l.val := h2
    rw [pay1]
    split
    · rw [pay6]
      refine head_eq _ _ (fun d => ?_) (fun κ d => ?_) (fun κ d => ?_) (by omega) (by split <;> first | rfl | omega)
      all_goals
        refine View.ld_unit_apply_of _ _ _ _ _ _ fun a => ?_
        match a with
        | ⟨0, _⟩ => rfl
        | ⟨1, _⟩ => exact (Nat.zero_add _).symm
        | ⟨2, _⟩ => show (headOf L).val * 128 + d.val = 0 + d.val; unfold headOf; dsimp only; omega
    · rw [pay8]
      refine head_eq _ _ (fun d => ?_) (fun κ d => ?_) (fun κ d => ?_) (by omega) (by split <;> first | rfl | omega)
      all_goals
        refine View.ld_unit_apply_of _ _ _ _ _ _ fun a => ?_
        match a with
        | ⟨0, _⟩ => rfl
        | ⟨1, _⟩ => exact (Nat.zero_add _).symm
        | ⟨2, _⟩ => show (headOf L).val * 128 + d.val = 128 + d.val; unfold headOf; dsimp only; omega

/-- What any other point leaves in its block. -/
theorem outB (hc0 : ¬cond0_0 i) (hc1 : cond0_1 i) (R L : Fin 256) :
    out0_B_3 c i arg3 harg3 arg4 harg4 arg5 harg5 arg6 harg6 hc0 hc1 x0 x1 x2 (ix3 0 R L)
      = blockEntry 4352 (by decide) x0 x1 x2 R L := by
  frame_out
  canon_tiles x h
  all_goals
    obtain ⟨r, l, rfl⟩ : ∃ (r : Fin 256) (l : Fin 128), x = ix3 0 r l :=
      ⟨x 1, x 2, by rw [eq_ix3 x]; congr 1; exact Subsingleton.elim (α := Fin 1) _ _⟩
    obtain rfl : R = r := Fin.ext h1
    have hl : l.val < 128 := l.isLt
  · replace h2 : L.val = 128 + l.val := h2
    rw [pay4]
    split
    · rw [pay16]
      refine head_eq _ _ (fun d => ?_) (fun κ d => ?_) (fun κ d => ?_) (by omega) (by split <;> first | rfl | omega)
      all_goals
        refine View.ld_unit_apply_of _ _ _ _ _ _ fun a => ?_
        match a with
        | ⟨0, _⟩ => rfl
        | ⟨1, _⟩ => exact (Nat.zero_add _).symm
        | ⟨2, _⟩ => show (headOf L).val * 128 + d.val = 256 + d.val; unfold headOf; dsimp only; omega
    · rw [pay17]
      refine head_eq _ _ (fun d => ?_) (fun κ d => ?_) (fun κ d => ?_) (by omega) (by split <;> first | rfl | omega)
      all_goals
        refine View.ld_unit_apply_of _ _ _ _ _ _ fun a => ?_
        match a with
        | ⟨0, _⟩ => rfl
        | ⟨1, _⟩ => exact (Nat.zero_add _).symm
        | ⟨2, _⟩ => show (headOf L).val * 128 + d.val = 384 + d.val; unfold headOf; dsimp only; omega
  · replace h2 : L.val = l.val := h2
    rw [pay3]
    split
    · rw [pay13]
      refine head_eq _ _ (fun d => ?_) (fun κ d => ?_) (fun κ d => ?_) (by omega) (by split <;> first | rfl | omega)
      all_goals
        refine View.ld_unit_apply_of _ _ _ _ _ _ fun a => ?_
        match a with
        | ⟨0, _⟩ => rfl
        | ⟨1, _⟩ => exact (Nat.zero_add _).symm
        | ⟨2, _⟩ => show (headOf L).val * 128 + d.val = 0 + d.val; unfold headOf; dsimp only; omega
    · rw [pay15]
      refine head_eq _ _ (fun d => ?_) (fun κ d => ?_) (fun κ d => ?_) (by omega) (by split <;> first | rfl | omega)
      all_goals
        refine View.ld_unit_apply_of _ _ _ _ _ _ fun a => ?_
        match a with
        | ⟨0, _⟩ => rfl
        | ⟨1, _⟩ => exact (Nat.zero_add _).symm
        | ⟨2, _⟩ => show (headOf L).val * 128 + d.val = 128 + d.val; unfold headOf; dsimp only; omega

end Cert.AttentionBlock

end
-- ==== Proof.AttentionHost.lean ====
/- The host's packing. -/
module

public import proofs.«01_k».proof.Proof.Gen.KernelIdeal.Frame
public import Idealize.ShloMosaic.Lib.Pointwise
public import Idealize.ShloMosaic.Lib.StableHlo.RunRead
public import Idealize.ShloMosaic.Lib.Tactic.CleanTypes

@[expose] public section

set_option maxRecDepth 16384

noncomputable section

namespace Cert.AttentionHost

open Cert.KernelIdeal Cert.KernelIdeal.Gen Cert.KernelIdeal.Facts Idealize.ShloMosaic Idealize.ShloMosaic.TcCoe

variable (m : (ℓ : Loc nD τ sig) → Buf (Elt Ideal) ℓ) (c : Dev nD)

/-- Lanes padded to 128 and heads side by side, read at an index. -/
theorem pad_apply (x : FVec Ideal S8x4352x8x96 .f32) (y : FVec Ideal S8x4352x8x32 .f32) (b : Fin 8) (r : Fin 4352) (l : Fin 1024) :
    (shapeCast S8x4352x1024 (truncf .bf16 (concatenate S8x4352x8x128 3 [⟨S8x4352x8x96, x⟩, ⟨S8x4352x8x32, y⟩]
        concatenates_S8x4352x8x96_S8x4352x8x32_S8x4352x8x128_d3) bitsLt_bf16_f32) shapeCasts_S8x4352x8x128_S8x4352x1024 : FVec Ideal S8x4352x1024 .bf16) (ix3 b r l)
      = if h : l.val % 128 < 96 then x (ix4 b r ⟨l.val / 128, by omega⟩ ⟨l.val % 128, h⟩)
        else y (ix4 b r ⟨l.val / 128, by omega⟩ ⟨l.val % 128 - 96, by omega⟩) := by
  pointwise

/-- Even and odd heads interleaved, and heads side by side, read at an index. -/
theorem pairs_apply (x y : FVec Ideal S8x4352x4x1x128 .f32) (b : Fin 8) (r : Fin 4352) (l : Fin 1024) :
    (shapeCast S8x4352x1024 (truncf .bf16 (concatenate S8x4352x4x2x128 3 [⟨S8x4352x4x1x128, x⟩, ⟨S8x4352x4x1x128, y⟩]
        concatenates_S8x4352x4x1x128_S8x4352x4x1x128_S8x4352x4x2x128_d3) bitsLt_bf16_f32) shapeCasts_S8x4352x4x2x128_S8x4352x1024 : FVec Ideal S8x4352x1024 .bf16) (ix3 b r l)
      = if l.val / 128 % 2 < 1 then x (ix5 b r ⟨l.val / 256, by omega⟩ 0 ⟨l.val % 128, by omega⟩)
        else y (ix5 b r ⟨l.val / 256, by omega⟩ 0 ⟨l.val % 128, by omega⟩) := by
  pointwise
  split
  · rename_i h
    have e : (⟨l.val / 128 % 2, by omega⟩ : Fin 1) = 0 := Subsingleton.elim _ _
    rw [e]
  · rename_i h
    have e : (⟨l.val / 128 % 2 - 1, by omega⟩ : Fin 1) = 0 := Subsingleton.elim _ _
    rw [e]

/-- An even head's lanes: the values, then a one. -/
theorem even_apply (x : FVec Ideal S8x4352x4x64 .f32) (o : FVec Ideal S8x4352x4x1 .f32) (z : FVec Ideal S8x4352x4x63 .f32)
    (b : Fin 8) (r : Fin 4352) (h : Fin 4) (l : Fin 128) (hl : l.val ≤ 64) :
    broadcastInDim S8x4352x4x1x128 ![0, 1, 2, 4] bcast_S8x4352x4x128_S8x4352x4x1x128_0_1_2_4
        (concatenate S8x4352x4x128 3 [⟨S8x4352x4x64, x⟩, ⟨S8x4352x4x1, o⟩, ⟨S8x4352x4x63, z⟩]
          concatenates_S8x4352x4x64_S8x4352x4x1_S8x4352x4x63_S8x4352x4x128_d3 : FVec Ideal S8x4352x4x128 .f32) (ix5 b r h 0 l)
      = if h' : l.val < 64 then x (ix4 b r h ⟨l.val, h'⟩) else o (ix4 b r h 0) := by
  pointwise
  by_cases h1 : l.val < 64
  · rw [dif_pos h1, dif_pos h1]
  · have e : (⟨l.val - 64, by omega⟩ : Fin 1) = 0 := Subsingleton.elim _ _
    rw [dif_neg h1, dif_neg h1, dif_pos (by omega), e]

/-- An odd head's lanes: a one, then, from lane 64, the values. -/
theorem odd_apply (o : FVec Ideal S8x4352x4x1 .f32) (z : FVec Ideal S8x4352x4x63 .f32) (x : FVec Ideal S8x4352x4x64 .f32)
    (b : Fin 8) (r : Fin 4352) (h : Fin 4) (l : Fin 128) (hl : l.val = 0 ∨ 64 ≤ l.val) :
    broadcastInDim S8x4352x4x1x128 ![0, 1, 2, 4] bcast_S8x4352x4x128_S8x4352x4x1x128_0_1_2_4
        (concatenate S8x4352x4x128 3 [⟨S8x4352x4x1, o⟩, ⟨S8x4352x4x63, z⟩, ⟨S8x4352x4x64, x⟩]
          concatenates_S8x4352x4x1_S8x4352x4x63_S8x4352x4x64_S8x4352x4x128_d3 : FVec Ideal S8x4352x4x128 .f32) (ix5 b r h 0 l)
      = if h' : 64 ≤ l.val then x (ix4 b r h ⟨l.val - 64, by omega⟩) else o (ix4 b r h 0) := by
  pointwise
  by_cases h1 : 64 ≤ l.val
  · have e : (⟨l.val - 1 - 63, by omega⟩ : Fin 64) = ⟨l.val - 64, by omega⟩ := Fin.ext (by dsimp only; omega)
    rw [dif_pos h1, dif_neg (by omega), dif_neg (by omega), e]
  · have e : (⟨l.val, by omega⟩ : Fin 1) = 0 := Subsingleton.elim _ _
    rw [dif_neg h1, dif_pos (by omega), e]

/-- The even heads of the values, read at an index. -/
theorem even_values (x : FVec Ideal S8x4352x8x64 .f32) (b : Fin 8) (r : Fin 4352) (h : Fin 4) (e : Fin 64) :
    shapeCast S8x4352x4x64 (extractStridedSlice S8x4352x4x1x64 ![0, 0, 0, 0, 0] (shapeCast S8x4352x4x2x64 x shapeCasts_S8x4352x8x64_S8x4352x4x2x64)
        slices_S8x4352x4x2x64_S8x4352x4x1x64_0_0_0_0_0) shapeCasts_S8x4352x4x1x64_S8x4352x4x64 (ix4 b r h e)
      = x (ix4 b r ⟨h.val * 2, by omega⟩ e) := by
  pointwise

/-- The odd heads of the values, read at an index. -/
theorem odd_values (x : FVec Ideal S8x4352x8x64 .f32) (b : Fin 8) (r : Fin 4352) (h : Fin 4) (e : Fin 64) :
    shapeCast S8x4352x4x64 (extractStridedSlice S8x4352x4x1x64 ![0, 0, 0, 1, 0] (shapeCast S8x4352x4x2x64 x shapeCasts_S8x4352x8x64_S8x4352x4x2x64)
        slices_S8x4352x4x2x64_S8x4352x4x1x64_0_0_0_1_0) shapeCasts_S8x4352x4x1x64_S8x4352x4x64 (ix4 b r h e)
      = x (ix4 b r ⟨h.val * 2 + 1, by omega⟩ e) := by
  pointwise

/-- The divisor of the queries. -/
def root : EReal := Ideal.sqrt (Ideal.ofBits .f32 0x42C00000#32) * Ideal.log (Ideal.ofBits .f32 0x40000000#32)

/-- The packed queries: the query over the divisor, and zero from lane 96 on. -/
theorem queries (x : FVec Ideal S8x4352x8x96 .f32) (hx : m ((c : Thread nD τ).loc main_arg0) = x) (b : Fin 8) (r : Fin 4352) (l : Fin 1024) :
    (V m c (Pipeline.arrRef spec0 0) : FVec Ideal S8x4352x1024 .bf16) (ix3 b r l)
      = if h : l.val % 128 < 96 then
          Ideal.div (x (ix4 b r ⟨l.val / 128, by omega⟩ ⟨l.val % 128, h⟩)) root
        else 0 := by
  subst hx
  show StableHlo.after hostOps0 (fun b => m (c, b)) main_v8 _ = _
  after_reads_simp
  refine (pad_apply _ _ b r l).trans ?_
  after_reads_simp
  split
  · rfl
  · exact Ideal.ofBits_zero_f32

/-- The packed keys: the key, and zero from lane 96 on. -/
theorem keys (x : FVec Ideal S8x4352x8x96 .f32) (hx : m ((c : Thread nD τ).loc main_arg1) = x) (b : Fin 8) (r : Fin 4352) (l : Fin 1024) :
    (V m c (Pipeline.arrRef spec0 1) : FVec Ideal S8x4352x1024 .bf16) (ix3 b r l)
      = if h : l.val % 128 < 96 then
          x (ix4 b r ⟨l.val / 128, by omega⟩ ⟨l.val % 128, h⟩)
        else 0 := by
  subst hx
  show StableHlo.after hostOps0 (fun b => m (c, b)) main_v11 _ = _
  after_reads_simp
  refine (pad_apply _ _ b r l).trans ?_
  after_reads_simp
  split
  · rfl
  · exact Ideal.ofBits_zero_f32

/-- The packed values at an even head's lanes up to 64. -/
theorem values_even (x : FVec Ideal S8x4352x8x64 .f32) (hx : m ((c : Thread nD τ).loc main_arg2) = x) (b : Fin 8) (r : Fin 4352) (l : Fin 1024) (h0 : l.val / 128 % 2 < 1) (hl : l.val % 128 ≤ 64) :
    (V m c (Pipeline.arrRef spec0 2) : FVec Ideal S8x4352x1024 .bf16) (ix3 b r l)
      = if h : l.val % 128 < 64 then
          x (ix4 b r ⟨l.val / 128, by omega⟩ ⟨l.val % 128, h⟩)
        else 1 := by
  subst hx
  show StableHlo.after hostOps0 (fun b => m (c, b)) main_v25 _ = _
  after_reads_simp
  refine (pairs_apply _ _ b r l).trans ?_
  rw [if_pos h0]
  after_reads_simp
  refine (even_apply _ _ _ b r _ _ hl).trans ?_
  split_ifs with h1
  · refine (dif_pos h1).trans ?_
    show StableHlo.upto hostOps0 (fun b => m (c, b)) 22 (Proc.tc.devRef main_v16) _ = _
    after_reads_simp
    refine (even_values _ b r _ _).trans ?_
    have e : (⟨l.val / 256 * 2, by omega⟩ : Fin 8) = ⟨l.val / 128, by omega⟩ := Fin.ext (by dsimp only; omega)
    exact congrArg (fun h : Fin 8 => (m ((c : Thread nD τ).loc main_arg2) : FVec Ideal S8x4352x8x64 .f32) (ix4 b r h _)) e
  · refine (dif_neg h1).trans ?_
    show StableHlo.upto hostOps0 (fun b => m (c, b)) 22 (Proc.tc.devRef main_v13) _ = _
    after_reads_simp
    exact Ideal.ofBits_one_f32

/-- The packed values at an odd head's lane 0 and its lanes from 64 on. -/
theorem values_odd (x : FVec Ideal S8x4352x8x64 .f32) (hx : m ((c : Thread nD τ).loc main_arg2) = x) (b : Fin 8) (r : Fin 4352) (l : Fin 1024) (h0 : ¬l.val / 128 % 2 < 1) (hl : l.val % 128 = 0 ∨ 64 ≤ l.val % 128) :
    (V m c (Pipeline.arrRef spec0 2) : FVec Ideal S8x4352x1024 .bf16) (ix3 b r l)
      = if h : 64 ≤ l.val % 128 then
          x (ix4 b r ⟨l.val / 128, by omega⟩ ⟨l.val % 128 - 64, by omega⟩)
        else 1 := by
  subst hx
  show StableHlo.after hostOps0 (fun b => m (c, b)) main_v25 _ = _
  after_reads_simp
  refine (pairs_apply _ _ b r l).trans ?_
  rw [if_neg h0]
  after_reads_simp
  refine (odd_apply _ _ _ b r _ _ hl).trans ?_
  split_ifs with h1
  · refine (dif_pos h1).trans ?_
    show StableHlo.upto hostOps0 (fun b => m (c, b)) 25 (Proc.tc.devRef main_v19) _ = _
    after_reads_simp
    refine (odd_values _ b r _ _).trans ?_
    have e : (⟨l.val / 256 * 2 + 1, by omega⟩ : Fin 8) = ⟨l.val / 128, by omega⟩ := Fin.ext (by dsimp only; omega)
    exact congrArg (fun h : Fin 8 => (m ((c : Thread nD τ).loc main_arg2) : FVec Ideal S8x4352x8x64 .f32) (ix4 b r h _)) e
  · refine (dif_neg h1).trans ?_
    show StableHlo.upto hostOps0 (fun b => m (c, b)) 25 (Proc.tc.devRef main_v13) _ = _
    after_reads_simp
    exact Ideal.ofBits_one_f32

end Cert.AttentionHost

end
-- ==== Proof.AttentionReference.lean ====
/- The reference. -/
module

public import proofs.«01_k».proof.Proof.Softmax
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.AttentionReference

open Cert.ReferenceIdeal Cert.ReferenceIdeal.Gen Cert.ReferenceIdeal.Facts Cert.ReferenceIdeal.Value Idealize.ShloMosaic Idealize.ShloMosaic.TcCoe Cert.Softmax

variable (m : (ℓ : Loc nD τ sig) → Buf (Elt Ideal) ℓ)

/-- The maximum's first value is the least number. -/
theorem negInf : Ideal.ofBits .f32 0xFF800000#32 = ⊥ := by
  simp [Ideal.ofBits, Ideal.ieee]

/-- Row `r` of head `h` at lane `e`, attending to the first `n` tokens. -/
def attend (n : ℕ) (hn : n ≤ 4352) (q k : FVec Ideal S8x4352x8x96 .f32) (v : FVec Ideal S8x4352x8x64 .f32)
    (b : Fin 8) (r : Fin 4352) (h : Fin 8) (e : Fin 64) : EReal :=
  textbookRow
    (fun κ : Fin n => Ideal.div (∑ d : Fin 96, q (ix4 b r h d) * k (ix4 b (⟨κ.val, by omega⟩ : Fin 4352) h d))
      (Ideal.sqrt (Ideal.ofBits .f32 0x42C00000#32)))
    (fun κ => v (ix4 b (⟨κ.val, by omega⟩ : Fin 4352) h e))

/-- The two parts side by side, read at an index. -/
theorem parts_apply (x : FVec Ideal S8x256x8x64 .f32) (y : FVec Ideal S8x4096x8x64 .f32) (b : Fin 8) (r : Fin 4352) (h : Fin 8) (e : Fin 64) :
    (concatenate S8x4352x8x64 1 [⟨S8x256x8x64, x⟩, ⟨S8x4096x8x64, y⟩] concatenates_S8x256x8x64_S8x4096x8x64_S8x4352x8x64_d1 : FVec Ideal S8x4352x8x64 .f32)
        (ix4 b r h e)
      = if h' : r.val < 256 then x (ix4 b ⟨r.val, h'⟩ h e) else y (ix4 b ⟨r.val - 256, by omega⟩ h e) := by
  pointwise

/-- The heads side by side, read at an index. -/
theorem heads_apply (x : FVec Ideal S8x4352x8x64 .f32) (b : Fin 8) (r : Fin 4352) (l : Fin 512) :
    (truncf .bf16 (shapeCast S8x4352x512 x shapeCasts_S8x4352x8x64_S8x4352x512) bitsLt_bf16_f32 : FVec Ideal S8x4352x512 .bf16) (ix3 b r l)
      = x (ix4 b r ⟨l.val / 64, by omega⟩ ⟨l.val % 64, by omega⟩) := by
  pointwise

theorem divf_apply {S : Shape} (a b : FVec Ideal S .f32) (i : S.Idx) : Host.divf a b i = Ideal.div (a i) (b i) := (rfl)
theorem exp_apply {S : Shape} (a : FVec Ideal S .f32) (i : S.Idx) : Host.exp a i = Ideal.exp (a i) := (rfl)
theorem scalar_apply {α : Type} {T : Shape} {d : Fin S_.rank → Fin T.rank} (h : S_.BroadcastsInDim T d) (x : S_.Idx → α) (i : T.Idx) :
    broadcastInDim T d h x i = x (fun a => a.elim0) :=
  congrArg x (funext fun a => a.elim0)
theorem constant_apply (w : BitVec 32) (i : S_.Idx) : constant (F := Ideal) S_ .f32 w i = Ideal.ofBits .f32 w := (rfl)
theorem sqrt_constant (w : BitVec 32) (i : S_.Idx) : Host.sqrt (constant (F := Ideal) S_ .f32 w) i = Ideal.sqrt (Ideal.ofBits .f32 w) := (rfl)
theorem maximumf_apply {S : Shape} (a b : FVec Ideal S .f32) (i : S.Idx) : maximumf a b i = max (a i) (b i) := (rfl)
theorem subf_apply {S : Shape} (a b : FVec Ideal S .f32) (i : S.Idx) : subf a b i = (a i - b i : EReal) := (rfl)

/-! The context rows' operations, then the other rows', each read at an index. -/

theorem context_scores (q : FVec Ideal S8x256x8x96 .f32) (k : FVec Ideal S8x256x8x96 .f32) (b h : Fin 8) (r : Fin 256) (κ : Fin 256) :
    (Host.dotGeneral dot_S8x256x8x96_S8x256x8x96_S8x8x256x256_3_3_1_1_02_02 none q k : FVec Ideal S8x8x256x256 .f32) (ix4 b h r κ)
      = ∑ d : Fin 96, q (ix4 b r h d) * k (ix4 b κ h d) := by
  pointwise

theorem context_row {α : Type} (x : S8x8x256.Idx → α) {d₁ : Fin S8x8x256x1.rank → Fin S8x8x256x256.rank} {d₂ : Fin S8x8x256.rank → Fin S8x8x256x1.rank}
    (h₁ : S8x8x256x1.BroadcastsInDim S8x8x256x256 d₁) (h₂ : S8x8x256.BroadcastsInDim S8x8x256x1 d₂) (e₁ : d₁ = ![0, 1, 2, 3]) (e₂ : d₂ = ![0, 1, 2])
    (b h : Fin 8) (r : Fin 256) (κ : Fin 256) :
    broadcastInDim S8x8x256x256 d₁ h₁ (broadcastInDim S8x8x256x1 d₂ h₂ x) (ix4 b h r κ) = x (ix3 b h r) := by
  subst e₁ e₂
  pointwise

theorem context_greatest (s : FVec Ideal S8x8x256x256 .f32) (b h : Fin 8) (r : Fin 256) :
    Host.reduce FloatOps.maximumf s (constant S_ .f32 0xFF800000#32) reducesTo_S8x8x256x256_S8x8x256_d3 h_S_ (ix3 b h r)
      = Finset.univ.fold max (Ideal.ofBits .f32 0xFF800000#32) (fun κ => s (ix4 b h r κ)) := by
  pointwise

theorem context_total (p : FVec Ideal S8x8x256x256 .f32) (b h : Fin 8) (r : Fin 256) :
    Host.reduceAdd p (constant (F := Ideal) S_ .f32 0x00000000#32) reducesTo_S8x8x256x256_S8x8x256_d3 h_S_ (ix3 b h r) = ∑ κ, p (ix4 b h r κ) := by
  pointwise

theorem context_weighed (v : FVec Ideal S8x256x8x64 .f32) (w : FVec Ideal S8x8x256x256 .f32) (b : Fin 8) (r : Fin 256) (h : Fin 8) (e : Fin 64) :
    transpose S8x256x8x64 [0, 3, 1, 2] (Host.dotGeneral dot_S8x256x8x64_S8x8x256x256_S8x8x64x256_1_3_3_2_02_01 none v w) transposes_S8x8x64x256_S8x256x8x64_0_3_1_2 (ix4 b r h e)
      = ∑ κ, v (ix4 b κ h e) * w (ix4 b h r κ) := by
  pointwise

theorem long_scores (q : FVec Ideal S8x4096x8x96 .f32) (k : FVec Ideal S8x4352x8x96 .f32) (b h : Fin 8) (r : Fin 4096) (κ : Fin 4352) :
    (Host.dotGeneral dot_S8x4096x8x96_S8x4352x8x96_S8x8x4096x4352_3_3_1_1_02_02 none q k : FVec Ideal S8x8x4096x4352 .f32) (ix4 b h r κ)
      = ∑ d : Fin 96, q (ix4 b r h d) * k (ix4 b κ h d) := by
  pointwise

theorem long_row {α : Type} (x : S8x8x4096.Idx → α) {d₁ : Fin S8x8x4096x1.rank → Fin S8x8x4096x4352.rank} {d₂ : Fin S8x8x4096.rank → Fin S8x8x4096x1.rank}
    (h₁ : S8x8x4096x1.BroadcastsInDim S8x8x4096x4352 d₁) (h₂ : S8x8x4096.BroadcastsInDim S8x8x4096x1 d₂) (e₁ : d₁ = ![0, 1, 2, 3]) (e₂ : d₂ = ![0, 1, 2])
    (b h : Fin 8) (r : Fin 4096) (κ : Fin 4352) :
    broadcastInDim S8x8x4096x4352 d₁ h₁ (broadcastInDim S8x8x4096x1 d₂ h₂ x) (ix4 b h r κ) = x (ix3 b h r) := by
  subst e₁ e₂
  pointwise

theorem long_greatest (s : FVec Ideal S8x8x4096x4352 .f32) (b h : Fin 8) (r : Fin 4096) :
    Host.reduce FloatOps.maximumf s (constant S_ .f32 0xFF800000#32) reducesTo_S8x8x4096x4352_S8x8x4096_d3 h_S_ (ix3 b h r)
      = Finset.univ.fold max (Ideal.ofBits .f32 0xFF800000#32) (fun κ => s (ix4 b h r κ)) := by
  pointwise

theorem long_total (p : FVec Ideal S8x8x4096x4352 .f32) (b h : Fin 8) (r : Fin 4096) :
    Host.reduceAdd p (constant (F := Ideal) S_ .f32 0x00000000#32) reducesTo_S8x8x4096x4352_S8x8x4096_d3 h_S_ (ix3 b h r) = ∑ κ, p (ix4 b h r κ) := by
  pointwise

theorem long_weighed (v : FVec Ideal S8x4352x8x64 .f32) (w : FVec Ideal S8x8x4096x4352 .f32) (b : Fin 8) (r : Fin 4096) (h : Fin 8) (e : Fin 64) :
    transpose S8x4096x8x64 [0, 3, 1, 2] (Host.dotGeneral dot_S8x4352x8x64_S8x8x4096x4352_S8x8x64x4096_1_3_3_2_02_01 none v w) transposes_S8x8x64x4096_S8x4096x8x64_0_3_1_2 (ix4 b r h e)
      = ∑ κ, v (ix4 b κ h e) * w (ix4 b h r κ) := by
  pointwise

theorem q_context (q : FVec Ideal S8x4352x8x96 .f32) (b : Fin 8) (r : Fin 256) (h : Fin 8) (d : Fin 96) :
    extractStridedSlice S8x256x8x96 ![0, 0, 0, 0] q slices_S8x4352x8x96_S8x256x8x96_0_0_0_0 (ix4 b r h d)
      = q (ix4 b ⟨r.val, by omega⟩ h d) := by
  pointwise

theorem v_context (v : FVec Ideal S8x4352x8x64 .f32) (b : Fin 8) (r : Fin 256) (h : Fin 8) (e : Fin 64) :
    extractStridedSlice S8x256x8x64 ![0, 0, 0, 0] v slices_S8x4352x8x64_S8x256x8x64_0_0_0_0 (ix4 b r h e)
      = v (ix4 b ⟨r.val, by omega⟩ h e) := by
  pointwise

theorem q_long (q : FVec Ideal S8x4352x8x96 .f32) (b : Fin 8) (r : Fin 4096) (h : Fin 8) (d : Fin 96) :
    extractStridedSlice S8x4096x8x96 ![0, 256, 0, 0] q slices_S8x4352x8x96_S8x4096x8x96_0_256_0_0 (ix4 b r h d)
      = q (ix4 b ⟨256 + r.val, by omega⟩ h d) := by
  pointwise

/-- The reference's result, read at an index. -/
theorem reference_apply (c : Dev nD) (b : Fin 8) (r : Fin 4352) (l : Fin 512) :
    (res_main_v40 m c : FVec Ideal S8x4352x512 .bf16) (ix3 b r l)
      = if r.val < 256 then
          attend 256 (by decide) (m ((c : Thread nD τ).loc main_arg0)) (m ((c : Thread nD τ).loc main_arg1)) (m ((c : Thread nD τ).loc main_arg2))
            b r ⟨l.val / 64, by omega⟩ ⟨l.val % 64, by omega⟩
        else
          attend 4352 le_rfl (m ((c : Thread nD τ).loc main_arg0)) (m ((c : Thread nD τ).loc main_arg1)) (m ((c : Thread nD τ).loc main_arg2))
            b r ⟨l.val / 64, by omega⟩ ⟨l.val % 64, by omega⟩ := by
  unfold res_main_v40
  clean_types
  rw [heads_apply, parts_apply]
  generalize (m ((c : Thread nD τ).loc main_arg0)) = q
  generalize (m ((c : Thread nD τ).loc main_arg1)) = k
  generalize (m ((c : Thread nD τ).loc main_arg2)) = v
  generalize (⟨l.val / 64, _⟩ : Fin 8) = h
  generalize (⟨l.val % 64, _⟩ : Fin 64) = e
  change FVec Ideal S8x4352x8x96 .f32 at q k
  change FVec Ideal S8x4352x8x64 .f32 at v
  unfold attend textbookRow
  by_cases hr : r.val < 256
  · rw [dif_pos hr, if_pos hr, context_weighed]
    simp (disch := rfl) only [divf_apply, exp_apply, subf_apply, maximumf_apply, context_scores, scalar_apply, sqrt_constant, constant_apply, context_row, context_greatest, context_total, q_context, v_context, negInf]
  · rw [dif_neg hr, if_neg hr, long_weighed]
    have e : (⟨256 + (r.val - 256), by omega⟩ : Fin 4352) = r := Fin.ext (by dsimp only; omega)
    simp (disch := rfl) only [divf_apply, exp_apply, subf_apply, maximumf_apply, long_scores, scalar_apply, sqrt_constant, constant_apply, long_row, long_greatest, long_total, q_long, e, negInf]

end Cert.AttentionReference

end
-- ==== Proof.AttentionScores.lean ====
/- The scores in the padded layout, and what the precondition says. -/
module

public import proofs.«01_k».proof.Defs
public import proofs.«01_k».proof.Proof.AttentionBlock
public import proofs.«01_k».proof.Proof.AttentionFrames
public import proofs.«01_k».proof.Proof.AttentionHost
public import proofs.«01_k».proof.Proof.AttentionReference

@[expose] public section

set_option maxRecDepth 16384

noncomputable section

namespace Cert.Attention

open Cert.KernelIdeal Cert.KernelIdeal.Gen Cert.KernelIdeal.Facts Idealize.ShloMosaic Idealize.ShloMosaic.TcCoe Idealize.SL.Sem
open Cert.Softmax Cert.AttentionBlock Cert.AttentionHost Cert.AttentionReference

/-! ## The scores -/

theorem ninety_six : (Ideal.ofBits .f32 0x42C00000#32 : EReal) = ((96 : ℝ) : EReal) := by
  simp [Ideal.ofBits, Ideal.ieee, -EReal.coe_mul]; norm_num

theorem two : (Ideal.ofBits .f32 0x40000000#32 : EReal) = ((2 : ℝ) : EReal) := by
  simp [Ideal.ofBits, Ideal.ieee, -EReal.coe_mul]; norm_num

theorem root_ninety_six : Ideal.sqrt (Ideal.ofBits .f32 0x42C00000#32) = ((Real.sqrt 96 : ℝ) : EReal) := by
  rw [ninety_six, Ideal.sqrt_coe, if_neg (by norm_num)]

theorem root_eq : root = ((Real.sqrt 96 * Real.log 2 : ℝ) : EReal) := by
  rw [root, root_ninety_six, two, Ideal.log_coe, if_neg (by norm_num), EReal.coe_mul]

theorem sqrt_pos : 0 < Real.sqrt 96 := Real.sqrt_pos.2 (by norm_num)
theorem log_two_pos : 0 < Real.log 2 := Real.log_pos (by norm_num)

/-- The padded dot product of scaled queries is the score in units of `log 2`. -/
theorem padded_score (q k : Fin 96 → ℝ) :
    (∑ d : Fin 128, (if h : d.val < 96 then Ideal.div ((q ⟨d.val, h⟩ : ℝ) : EReal) root else 0)
        * (if h : d.val < 96 then ((k ⟨d.val, h⟩ : ℝ) : EReal) else 0))
      = (((∑ d, q d * k d) / Real.sqrt 96 / Real.log 2 : ℝ) : EReal) := by
  have hr : Real.sqrt 96 * Real.log 2 ≠ 0 := (mul_pos sqrt_pos log_two_pos).ne'
  rw [Fin.sum_univ_add (a := 96) (b := 32)]
  have h0 : ∀ i : Fin 32, ¬(Fin.natAdd 96 i : Fin 128).val < 96 := fun i => by rw [Fin.val_natAdd]; omega
  have h1 : ∀ i : Fin 96, (Fin.castAdd 32 i : Fin 128).val < 96 := fun i => i.isLt
  refine (congrArg₂ (· + ·)
    (Finset.sum_congr (g := fun i : Fin 96 => ((q i * (1 / (Real.sqrt 96 * Real.log 2)) * k i : ℝ) : EReal)) rfl fun i _ => ?_)
    (Finset.sum_eq_zero fun i _ => ?_)).trans ?_
  · rw [dif_pos (h1 i), dif_pos (h1 i), root_eq, Ideal.div_coe hr, EReal.coe_mul, EReal.coe_mul]
    rfl
  · rw [dif_neg (h0 i), zero_mul]
  show _ + 0 = _
  rw [add_zero, ← coe_sum]
  congr 1
  rw [div_div, Finset.sum_div]
  refine Finset.sum_congr rfl fun i _ => ?_
  show q i * (1 / _) * k i = _
  ring

/-- The textbook score. -/
theorem plain_score (q k : Fin 96 → ℝ) :
    Ideal.div (∑ d, ((q d : ℝ) : EReal) * ((k d : ℝ) : EReal)) (Ideal.sqrt (Ideal.ofBits .f32 0x42C00000#32))
      = (((∑ d, q d * k d) / Real.sqrt 96 : ℝ) : EReal) := by
  rw [root_ninety_six, Ideal.div_coe sqrt_pos.ne']
  simp only [← EReal.coe_mul]
  rw [← coe_sum, ← EReal.coe_mul]
  congr 1
  ring

/-- A row of attention over keys and values that lie in the packed layout. -/
theorem packed_row {n : ℕ} [NeZero n] (q : Fin 96 → ℝ) (k : Fin n → Fin 96 → ℝ) (v : Fin n → EReal) :
    kernelRow (fun κ => ∑ d : Fin 128, (if h : d.val < 96 then Ideal.div ((q ⟨d.val, h⟩ : ℝ) : EReal) root else 0)
        * (if h : d.val < 96 then ((k κ ⟨d.val, h⟩ : ℝ) : EReal) else 0)) v (fun _ => 1)
      = textbookRow (fun κ => Ideal.div (∑ d, ((q d : ℝ) : EReal) * ((k κ d : ℝ) : EReal)) (Ideal.sqrt (Ideal.ofBits .f32 0x42C00000#32))) v := by
  simp only [padded_score, plain_score]
  exact row_eq _ _

/-! ## The precondition -/

theorem infinity : (Ideal.ofBits .f32 0x7F800000#32 : EReal) = ⊤ := by simp [Ideal.ofBits, Ideal.ieee]

/-- Finite: a real number. -/
def Finite {s : Shape} (x : FVec Ideal s .f32) : Prop := ∃ y : s.Idx → ℝ, ∀ i, x i = ((y i : ℝ) : EReal)

theorem finite_of_abs {x : EReal} (h : Ideal.cmp .olt (max x (-x)) ⊤ = 1#1) : ∃ y : ℝ, x = (y : EReal) := by
  induction x using EReal.rec with
  | bot => simp [Ideal.cmp] at h
  | coe y => exact ⟨y, rfl⟩
  | top => simp [Ideal.cmp] at h

theorem pre_facts : Cert.Pre_finite_scores.Facts := ⟨by decide⟩

theorem both_of_and (x y : BitVec 1) (h : x &&& y = 1#1) : x = 1#1 ∧ y = 1#1 := by
  revert x y; decide

theorem finite_args (q k : FVec Ideal S8x4352x8x96 .f32) (v : FVec Ideal S8x4352x8x64 .f32)
    (h : @Cert.Pre_finite_scores.fn pre_facts Ideal _ q k v = fun _ => 1#1) : Finite q ∧ Finite k := by
  have h' : ∀ i, Ideal.cmp .olt (max (q i) (-q i)) (Ideal.ofBits .f32 0x7F800000#32)
      &&& Ideal.cmp .olt (max (k i) (-k i)) (Ideal.ofBits .f32 0x7F800000#32) = 1#1 := fun i => congrFun h i
  simp only [infinity] at h'
  choose f hf using fun i => finite_of_abs (both_of_and _ _ (h' i)).1
  choose g hg using fun i => finite_of_abs (both_of_and _ _ (h' i)).2
  exact ⟨⟨f, hf⟩, ⟨g, hg⟩⟩

end Cert.Attention

end
-- ==== Proof.AttentionBlocks.lean ====
/- What one grid point of attention computes, from the program's arguments. -/
module

public import proofs.«01_k».proof.Defs
public import proofs.«01_k».proof.Proof.AttentionScores
public import proofs.«01_k».proof.Proof.AttentionBlock
public import proofs.«01_k».proof.Proof.AttentionFrames
public import proofs.«01_k».proof.Proof.AttentionHost
public import proofs.«01_k».proof.Proof.AttentionReference

@[expose] public section

set_option maxRecDepth 16384

noncomputable section

namespace Cert.Attention

open Cert.KernelIdeal Cert.KernelIdeal.Gen Cert.KernelIdeal.Facts Idealize.ShloMosaic Idealize.ShloMosaic.TcCoe Idealize.SL.Sem
open Cert.Softmax Cert.AttentionBlock Cert.AttentionHost Cert.AttentionReference

/-! ## The blocks -/

variable (m : (ℓ : Loc nD τ sig) → Buf (Elt Ideal) ℓ) (ρ : Dev nD → PrngReg) (c : Dev nD)

/-- Which block each point takes of each array. -/
theorem index_facts : ∀ t : Fin cfg0.N,
    (win0_0.index t 0 = t.val / 34 ∧ win0_0.index t 1 = t.val % 17 ∧ win0_0.index t 2 = t.val / 17 % 2)
    ∧ (win0_1.index t 0 = t.val / 34 ∧ win0_1.index t 1 = 0 ∧ win0_1.index t 2 = t.val / 17 % 2)
    ∧ (win0_2.index t 0 = t.val / 34 ∧ win0_2.index t 1 = 0 ∧ win0_2.index t 2 = t.val / 17 % 2)
    ∧ (win0_3.index t 0 = t.val / 34 ∧ win0_3.index t 1 = t.val % 17 ∧ win0_3.index t 2 = t.val / 17 % 2) :=
  (by decide +kernel : ∀ t : Fin grid0.N,
    (win0_0.index t 0 = t.val / 34 ∧ win0_0.index t 1 = t.val % 17 ∧ win0_0.index t 2 = t.val / 17 % 2)
    ∧ (win0_1.index t 0 = t.val / 34 ∧ win0_1.index t 1 = 0 ∧ win0_1.index t 2 = t.val / 17 % 2)
    ∧ (win0_2.index t 0 = t.val / 34 ∧ win0_2.index t 1 = 0 ∧ win0_2.index t 2 = t.val / 17 % 2)
    ∧ (win0_3.index t 0 = t.val / 34 ∧ win0_3.index t 1 = t.val % 17 ∧ win0_3.index t 2 = t.val / 17 % 2))

theorem lt_272 (t : Fin cfg0.N) : t.val < 272 := lt_of_lt_of_eq t.isLt (show cfg0.N = 272 from N_0)

/-- Point `t`'s batch, the row of the array that its block's row `r` is, and the lane that its block's lane `l` is. -/
def batch (t : Fin cfg0.N) : Fin 8 := ⟨t.val / 34, by have := lt_272 t; omega⟩
def row (t : Fin cfg0.N) (r : Fin 256) : Fin 4352 := ⟨t.val % 17 * 256 + r.val, by omega⟩
def lane (t : Fin cfg0.N) (l : Fin 512) : Fin 1024 := ⟨t.val / 17 % 2 * 512 + l.val, by omega⟩

theorem query_block (t : Fin cfg0.N) (r : Fin 256) (l : Fin 512) :
    (iblk m c 0 t : Vec Ideal S1x256x512 .bf16) (ix3 0 r l)
      = (V m c (Pipeline.arrRef spec0 0) : FVec Ideal S8x4352x1024 .bf16) (ix3 (batch t) (row t r) (lane t l)) := by
  obtain ⟨⟨e0, e1, e2⟩, -⟩ := index_facts t
  have e : ((cfg0.win 0).blk t).view.emb (ix3 0 r l) = ix3 (batch t) (row t r) (lane t l) := by
    refine funext fun a => Fin.ext ?_
    match a with
    | ⟨0, _⟩ => show win0_0.index t 0 * 1 + 1 * 0 = t.val / 34; rw [e0]; omega
    | ⟨1, _⟩ => show win0_0.index t 1 * 256 + 1 * r.val = t.val % 17 * 256 + r.val; rw [e1]; omega
    | ⟨2, _⟩ => show win0_0.index t 2 * 512 + 1 * l.val = t.val / 17 % 2 * 512 + l.val; rw [e2]; omega
  unfold iblk
  generalize V m c (Pipeline.arrRef spec0 0) = A
  rw [View.read_apply, e]
  exact cast_eq _ _

theorem key_block (t : Fin cfg0.N) (r : Fin 4352) (l : Fin 512) :
    (iblk m c 1 t : Vec Ideal S1x4352x512 .bf16) (ix3 0 r l)
      = (V m c (Pipeline.arrRef spec0 1) : FVec Ideal S8x4352x1024 .bf16) (ix3 (batch t) r (lane t l)) := by
  obtain ⟨-, ⟨e0, e1, e2⟩, -⟩ := index_facts t
  have e : ((cfg0.win 1).blk t).view.emb (ix3 0 r l) = ix3 (batch t) r (lane t l) := by
    refine funext fun a => Fin.ext ?_
    match a with
    | ⟨0, _⟩ => show win0_1.index t 0 * 1 + 1 * 0 = t.val / 34; rw [e0]; omega
    | ⟨1, _⟩ => show win0_1.index t 1 * 4352 + 1 * r.val = r.val; rw [e1]; omega
    | ⟨2, _⟩ => show win0_1.index t 2 * 512 + 1 * l.val = t.val / 17 % 2 * 512 + l.val; rw [e2]; omega
  unfold iblk
  generalize V m c (Pipeline.arrRef spec0 1) = A
  rw [View.read_apply, e]
  exact cast_eq _ _

theorem value_block (t : Fin cfg0.N) (r : Fin 4352) (l : Fin 512) :
    (iblk m c 2 t : Vec Ideal S1x4352x512 .bf16) (ix3 0 r l)
      = (V m c (Pipeline.arrRef spec0 2) : FVec Ideal S8x4352x1024 .bf16) (ix3 (batch t) r (lane t l)) := by
  obtain ⟨-, -, ⟨e0, e1, e2⟩, -⟩ := index_facts t
  have e : ((cfg0.win 2).blk t).view.emb (ix3 0 r l) = ix3 (batch t) r (lane t l) := by
    refine funext fun a => Fin.ext ?_
    match a with
    | ⟨0, _⟩ => show win0_2.index t 0 * 1 + 1 * 0 = t.val / 34; rw [e0]; omega
    | ⟨1, _⟩ => show win0_2.index t 1 * 4352 + 1 * r.val = r.val; rw [e1]; omega
    | ⟨2, _⟩ => show win0_2.index t 2 * 512 + 1 * l.val = t.val / 17 % 2 * 512 + l.val; rw [e2]; omega
  unfold iblk
  generalize V m c (Pipeline.arrRef spec0 2) = A
  rw [View.read_apply, e]
  exact cast_eq _ _

/-- The whole result, from device `c`'s arguments: the first 256 rows attend the first 256 keys, the others all. -/
def attended (q k : FVec Ideal S8x4352x8x96 .f32) (v : FVec Ideal S8x4352x8x64 .f32) (b : Fin 8) (r : Fin 4352) (l : Fin 512) : EReal :=
  if r.val < 256 then attend 256 (by decide) q k v b r ⟨l.val / 64, by omega⟩ ⟨l.val % 64, by omega⟩
  else attend 4352 le_rfl q k v b r ⟨l.val / 64, by omega⟩ ⟨l.val % 64, by omega⟩

def out : Buf (Elt Ideal) ((c : Thread nD τ).loc main_v26) := fun i : S8x4352x512.Idx =>
  attended (m ((c : Thread nD τ).loc main_arg0)) (m ((c : Thread nD τ).loc main_arg1)) (m ((c : Thread nD τ).loc main_arg2)) (i 0) (i 1) (i 2)

/-- A row of attention from blocks whose entries are known. -/
theorem row_of_blocks (q k : FVec Ideal S8x4352x8x96 .f32) (v : FVec Ideal S8x4352x8x64 .f32) (q' k' : S8x4352x8x96.Idx → ℝ)
    (hq : ∀ i, q i = ((q' i : ℝ) : EReal)) (hk : ∀ i, k i = ((k' i : ℝ) : EReal)) (n : ℕ) [NeZero n] (hn : n ≤ 4352)
    (x0 : FVec Ideal S1x256x512 .bf16) (x1 x2 : FVec Ideal S1x4352x512 .bf16) (r l : Fin 256)
    (b : Fin 8) (R : Fin 4352) (h : Fin 8) (e : Fin 64)
    (hqs : ∀ d : Fin 128, x0 (ix3 0 r ⟨(headOf l).val * 128 + d.val, by omega⟩)
      = if g : d.val < 96 then Ideal.div ((q' (ix4 b R h ⟨d.val, g⟩) : ℝ) : EReal) root else 0)
    (hks : ∀ (κ : Fin n) (d : Fin 128), x1 (ix3 0 ⟨κ.val, by omega⟩ ⟨(headOf l).val * 128 + d.val, by omega⟩)
      = if g : d.val < 96 then ((k' (ix4 b ⟨κ.val, by omega⟩ h ⟨d.val, g⟩) : ℝ) : EReal) else 0)
    (hvs : ∀ κ : Fin n, x2 (ix3 0 ⟨κ.val, by omega⟩ ⟨(headOf l).val * 128 + l.val % 128, by omega⟩) = v (ix4 b ⟨κ.val, by omega⟩ h e))
    (hos : ∀ κ : Fin n, x2 (ix3 0 ⟨κ.val, by omega⟩ ⟨(headOf l).val * 128 + if l.val % 128 < 64 then 64 else 0, by split <;> omega⟩) = (1 : EReal)) :
    blockEntry n hn x0 x1 x2 r l = attend n hn q k v b R h e := by
  refine Eq.trans ?_ ((packed_row (fun d => q' (ix4 b R h d)) (fun (κ : Fin n) d => k' (ix4 b ⟨κ.val, by omega⟩ h d))
    (fun κ => v (ix4 b ⟨κ.val, by omega⟩ h e))).trans ?_)
  · exact congr (congr (congrArg kernelRow (funext fun κ => Finset.sum_congr rfl fun d _ => congrArg₂ (· * ·) (hqs d) (hks κ d)))
      (funext hvs)) (funext hos)
  · unfold attend
    simp only [hq, hk]

/-- The head of the array that a head of point `t`'s block is. -/
def head (t : Fin cfg0.N) (l : Fin 256) : Fin 8 := ⟨t.val / 17 % 2 * 4 + l.val / 64, by omega⟩

theorem lane_mod (t : Fin cfg0.N) (l : Fin 256) (d : ℕ) (hd : d < 128) :
    (lane t ⟨(headOf l).val * 128 + d, by omega⟩).val % 128 = d := by
  show (t.val / 17 % 2 * 512 + ((headOf l).val * 128 + d)) % 128 = d
  omega

theorem lane_div (t : Fin cfg0.N) (l : Fin 256) (d : ℕ) (hd : d < 128) :
    (lane t ⟨(headOf l).val * 128 + d, by omega⟩).val / 128 = t.val / 17 % 2 * 4 + l.val / 64 := by
  show (t.val / 17 % 2 * 512 + ((2 * (l.val / 128) + l.val % 128 / 64) * 128 + d)) / 128 = _
  omega

/-- The queries of point `t`'s block. -/
theorem query_entry (q : FVec Ideal S8x4352x8x96 .f32) (hq : m ((c : Thread nD τ).loc main_arg0) = q) (t : Fin cfg0.N) (r l : Fin 256) (d : Fin 128) :
    (iblk m c 0 t : Vec Ideal S1x256x512 .bf16) (ix3 0 r ⟨(headOf l).val * 128 + d.val, by omega⟩)
      = if h : d.val < 96 then Ideal.div (q (ix4 (batch t) (row t r) (head t l) ⟨d.val, h⟩)) root else 0 := by
  rw [query_block, queries m c q hq]
  by_cases h : d.val < 96
  · rw [dif_pos h, dif_pos (by rw [lane_mod t l d d.isLt]; exact h)]
    refine congrArg (fun i => Ideal.div (q i) root) ?_
    rw [ix4_inj]
    exact ⟨rfl, rfl, Fin.ext (lane_div t l d d.isLt), Fin.ext (lane_mod t l d d.isLt)⟩
  · rw [dif_neg h, dif_neg (by rw [lane_mod t l d d.isLt]; exact h)]

/-- The keys of point `t`'s block. -/
theorem key_entry (k : FVec Ideal S8x4352x8x96 .f32) (hk : m ((c : Thread nD τ).loc main_arg1) = k) (t : Fin cfg0.N) (r : Fin 4352) (l : Fin 256) (d : Fin 128) :
    (iblk m c 1 t : Vec Ideal S1x4352x512 .bf16) (ix3 0 r ⟨(headOf l).val * 128 + d.val, by omega⟩)
      = if h : d.val < 96 then k (ix4 (batch t) r (head t l) ⟨d.val, h⟩) else 0 := by
  rw [key_block, keys m c k hk]
  by_cases h : d.val < 96
  · rw [dif_pos h, dif_pos (by rw [lane_mod t l d d.isLt]; exact h)]
    refine congrArg k ?_
    rw [ix4_inj]
    exact ⟨rfl, rfl, Fin.ext (lane_div t l d d.isLt), Fin.ext (lane_mod t l d d.isLt)⟩
  · rw [dif_neg h, dif_neg (by rw [lane_mod t l d d.isLt]; exact h)]

/-- The values of point `t`'s block. -/
theorem value_entry (v : FVec Ideal S8x4352x8x64 .f32) (hv : m ((c : Thread nD τ).loc main_arg2) = v) (t : Fin cfg0.N) (r : Fin 4352) (l : Fin 256) :
    (iblk m c 2 t : Vec Ideal S1x4352x512 .bf16) (ix3 0 r ⟨(headOf l).val * 128 + l.val % 128, by omega⟩)
      = v (ix4 (batch t) r (head t l) ⟨l.val % 64, by omega⟩) := by
  have e1 := lane_mod t l (l.val % 128) (by omega)
  have e2 := lane_div t l (l.val % 128) (by omega)
  rw [value_block]
  by_cases h : l.val % 128 < 64
  · rw [values_even m c v hv _ _ _ (by rw [e2]; omega) (by rw [e1]; omega), dif_pos (by rw [e1]; exact h)]
    refine congrArg v ?_
    rw [ix4_inj]
    exact ⟨rfl, rfl, Fin.ext e2, Fin.ext (e1.trans (by dsimp only; omega))⟩
  · rw [values_odd m c v hv _ _ _ (by rw [e2]; omega) (by rw [e1]; omega), dif_pos (by rw [e1]; omega)]
    refine congrArg v ?_
    rw [ix4_inj]
    exact ⟨rfl, rfl, Fin.ext e2, Fin.ext ((congrArg (· - 64) e1).trans (by dsimp only; omega))⟩

/-- The lane of ones beside the values of point `t`'s block. -/
theorem one_entry (v : FVec Ideal S8x4352x8x64 .f32) (hv : m ((c : Thread nD τ).loc main_arg2) = v) (t : Fin cfg0.N) (r : Fin 4352) (l : Fin 256) :
    (iblk m c 2 t : Vec Ideal S1x4352x512 .bf16) (ix3 0 r ⟨(headOf l).val * 128 + if l.val % 128 < 64 then 64 else 0, by split <;> omega⟩)
      = (1 : EReal) := by
  have e1 := lane_mod t l (if l.val % 128 < 64 then 64 else 0) (by split <;> omega)
  have e2 := lane_div t l (if l.val % 128 < 64 then 64 else 0) (by split <;> omega)
  rw [value_block]
  by_cases h : l.val % 128 < 64
  · replace e1 := e1.trans (if_pos h)
    rw [values_even m c v hv _ _ _ (by rw [e2]; omega) (by rw [e1]), dif_neg (by rw [e1]; omega)]
  · replace e1 := e1.trans (if_neg h)
    rw [values_odd m c v hv _ _ _ (by rw [e2]; omega) (by rw [e1]; omega), dif_neg (by rw [e1]; omega)]

/-- Point `t`'s block of the result, read at an index: the row over the first `n` keys. -/
theorem block_apply (q k : FVec Ideal S8x4352x8x96 .f32) (v : FVec Ideal S8x4352x8x64 .f32)
    (hq : m ((c : Thread nD τ).loc main_arg0) = q) (hk : m ((c : Thread nD τ).loc main_arg1) = k) (hv : m ((c : Thread nD τ).loc main_arg2) = v)
    (fq : Finite q) (fk : Finite k) (n : ℕ) [NeZero n] (hn : n ≤ 4352) (t : Fin cfg0.N) (r l : Fin 256) :
    blockEntry n hn (iblk m c 0 t) (iblk m c 1 t) (iblk m c 2 t) r l
      = attend n hn q k v (batch t) (row t r) ⟨t.val / 17 % 2 * 4 + l.val / 64, by omega⟩ ⟨l.val % 64, by omega⟩ := by
  obtain ⟨q', hq'⟩ := fq
  obtain ⟨k', hk'⟩ := fk
  refine row_of_blocks q k v q' k' hq' hk' n hn _ _ _ r l (batch t) (row t r) (head t l) ⟨l.val % 64, by omega⟩
    (fun d => ?_) (fun κ d => ?_) (fun κ => value_entry m c v hv t _ l) (fun κ => one_entry m c v hv t _ l)
  · simp only [← hq']; exact query_entry m c q hq t r l d
  · simp only [← hk']; exact key_entry m c k hk t _ l d

end Cert.Attention

end
-- ==== Proof.Attention.lean ====
/- Attention: the array that the pipelined kernel leaves is the reference's attention. -/
module

public import proofs.«01_k».proof.Defs
public import proofs.«01_k».proof.Proof.AttentionBlocks
public import proofs.«01_k».proof.Proof.AttentionFrames
public import proofs.«01_k».proof.Proof.AttentionHost
public import proofs.«01_k».proof.Proof.AttentionReference

@[expose] public section

set_option maxRecDepth 16384

noncomputable section

namespace Cert.Attention

open Cert.KernelIdeal Cert.KernelIdeal.Gen Cert.KernelIdeal.Facts Idealize.ShloMosaic Idealize.ShloMosaic.TcCoe Idealize.SL.Sem
open Cert.Softmax Cert.AttentionBlock Cert.AttentionHost Cert.AttentionReference

variable (m : (ℓ : Loc nD τ sig) → Buf (Elt Ideal) ℓ) (ρ : Dev nD → PrngReg) (c : Dev nD)

/-- What point `t` writes back is its block of `out`. -/
theorem flushed_eq (fq : Finite (m ((c : Thread nD τ).loc main_arg0) : FVec Ideal S8x4352x8x96 .f32))
    (fk : Finite (m ((c : Thread nD τ).loc main_arg1) : FVec Ideal S8x4352x8x96 .f32)) (t : Fin cfg0.N) :
    (dats m 0 c).flushed 3 t = (win0_3.blk t).view.read (Elt Ideal) (out m c) := by
  show (dats m 0 c).after 3 t = _
  rw [after0_3]
  obtain ⟨-, -, -, e0, e1, e2⟩ := index_facts t
  have ht := lt_272 t
  refine funext fun y : S1x256x256.Idx => ?_
  obtain ⟨r, l, rfl⟩ : ∃ (r l : Fin 256), y = ix3 0 r l :=
    ⟨y 1, y 2, by rw [eq_ix3 y]; congr 1; exact Subsingleton.elim (α := Fin 1) _ _⟩
  have key : ∀ i : S8x4352x512.Idx, i = ix3 (batch t) (row t r) (⟨t.val / 17 % 2 * 256 + l.val, by omega⟩ : Fin 512) →
      outsAt0 m c t.val t.isLt (ix3 0 r l) = out m c i := by
    rintro i rfl
    have elane : (t.val / 17 % 2 * 256 + l.val) / 64 = t.val / 17 % 2 * 4 + l.val / 64 := by omega
    have elane' : (t.val / 17 % 2 * 256 + l.val) % 64 = l.val % 64 := by omega
    show _ = attended _ _ _ (batch t) (row t r) ⟨t.val / 17 % 2 * 256 + l.val, by omega⟩
    unfold attended
    simp only [elane, elane']
    by_cases h : t.val % 17 = 0
    · rw [outsAt0_A m c t h (by omega), outA, block_apply m c _ _ _ rfl rfl rfl fq fk, if_pos (by show t.val % 17 * 256 + r.val < 256; omega)]
    · rw [outsAt0_B m c t h (by omega), outB, block_apply m c _ _ _ rfl rfl rfl fq fk, if_neg (by show ¬t.val % 17 * 256 + r.val < 256; omega)]
  refine key _ (funext fun a => Fin.ext ?_)
  match a with
  | ⟨0, _⟩ => show win0_3.index t 0 * 1 + 1 * 0 = t.val / 34; rw [e0]; omega
  | ⟨1, _⟩ => show win0_3.index t 1 * 256 + 1 * r.val = t.val % 17 * 256 + r.val; rw [e1]; omega
  | ⟨2, _⟩ => show win0_3.index t 2 * 256 + 1 * l.val = t.val / 17 % 2 * 256 + l.val; rw [e2]; omega

/-- An index of the result is in point `t`'s block. -/
theorem mem_blk (t : Fin cfg0.N) (i : S8x4352x512.Idx) (h0 : (i 0).val = t.val / 34) (h1 : (i 1).val / 256 = t.val % 17)
    (h2 : (i 2).val / 256 = t.val / 17 % 2) : i ∈ ((cfg0.win 3).blk t).view.set := by
  show i ∈ ((View.whole main_v26).slice (win0_3.rect t)).set
  rw [View.set_slice_whole, Rect.mem_set_unit]
  obtain ⟨-, -, -, e0, e1, e2⟩ := index_facts t
  intro a
  match a with
  | ⟨0, _⟩ => show win0_3.index t 0 * 1 ≤ (i 0).val ∧ (i 0).val < win0_3.index t 0 * 1 + 1; rw [e0]; omega
  | ⟨1, _⟩ => show win0_3.index t 1 * 256 ≤ (i 1).val ∧ (i 1).val < win0_3.index t 1 * 256 + 256; rw [e1]; omega
  | ⟨2, _⟩ => show win0_3.index t 2 * 256 ≤ (i 2).val ∧ (i 2).val < win0_3.index t 2 * 256 + 256; rw [e2]; omega

/-- The blocks fill the result. -/
theorem cover (i : S8x4352x512.Idx) : ∃ t : Fin cfg0.N, (cfg0.win 3).flush t = true ∧ i ∈ ((cfg0.win 3).blk t).view.set := by
  have h0 : (i 0).val < 8 := (i 0).isLt
  have h1 : (i 1).val < 4352 := (i 1).isLt
  have h2 : (i 2).val < 512 := (i 2).isLt
  have hN : cfg0.N = 272 := N_0
  refine ⟨⟨(i 0).val * 34 + (i 2).val / 256 * 17 + (i 1).val / 256, by omega⟩, flush0_3 _, mem_blk _ i ?_ ?_ ?_⟩ <;> dsimp only <;> omega

/-- The run: the result is `out`, the arguments are unchanged. -/
theorem run (hf : ∀ c : Dev nD, Finite (m ((c : Thread nD τ).loc main_arg0) : FVec Ideal S8x4352x8x96 .f32)
      ∧ Finite (m ((c : Thread nD τ).loc main_arg1) : FVec Ideal S8x4352x8x96 .f32)) :
    θ_run defs (onTc (τ := τ) (main (F := Ideal))) ⟨m, fun _ => 0, ρ⟩ fun r => ∀ c : Dev nD,
      r.2.mem ((c : Thread nD τ).loc main_v26) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1.out_eq c 3).trans
      ((dats m 0 c).arrAt_eq_of_cover 3 (out m c) (fun t _ => flushed_eq m c (hf c).1 (hf c).2 t) cover), h.2 c⟩)
    (θ_run_and (run_main m ρ) (unchanged m ρ))

/-! ## The claims -/

theorem ideal_of_finite : @Cert.quiescent_KernelIdeal_pre_finite_scores Cert.KernelIdeal.Gen.facts pre_facts :=
  fun m ρ _ => Cert.KernelIdeal.Gen.frame m ρ

theorem reference_of_finite : @Cert.quiescent_ReferenceIdeal_pre_finite_scores Cert.ReferenceIdeal.Gen.facts pre_facts :=
  fun m ρ _ => AttentionFrames.reference m ρ trivial

/-- The kernel's result is the reference's. -/
theorem algebraic : @Cert.algebraic_KernelIdeal_ReferenceIdeal_pre_finite_scores Cert.KernelIdeal.Gen.facts Cert.ReferenceIdeal.Gen.facts pre_facts := by
  intro m ρ m' ρ' hpre hagree
  refine ⟨fun c => out m c, run m ρ fun c => finite_args _ _ _ (hpre c), ?_⟩
  refine (θ_run Cert.ReferenceIdeal.defs _ _).mono (fun _ h c => ⟨(h c).1.trans ?_, (h c).2⟩)
    (Cert.ReferenceIdeal.Value.run (F := Ideal) m' ρ')
  refine funext fun i : S8x4352x512.Idx => ?_
  obtain ⟨b, r, l, rfl⟩ : ∃ (b : Fin 8) (r : Fin 4352) (l : Fin 512), i = ix3 b r l := ⟨i 0, i 1, i 2, eq_ix3 i⟩
  refine (reference_apply m' c b r l).trans ?_
  rw [(hagree c).1, (hagree c).2.1, (hagree c).2.2]
  rfl

end Cert.Attention

end
-- ==== Proof.FinalNorm.lean ====
/- The final norm: the array that the pipelined kernel leaves is the reference's root-mean-square norm of the
   residual's main tokens. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pointwise

@[expose] public section

set_option maxRecDepth 16384

noncomputable section

namespace Cert.FinalNorm

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The norm of one token at one lane: the entry over the root of the token's mean square, times the lane's gain. -/
def normed (x : FVec Ideal S8x4352x1024 .f32) (g : FVec Ideal S1024 .f32) (b : Fin 8) (r : Fin 4096) (l : Fin 1024) : EReal :=
  x (ix3 b ⟨256 + r.val, by omega⟩ l)
    * Ideal.rsqrt (Ideal.div (∑ k : Fin 1024, x (ix3 b ⟨256 + r.val, by omega⟩ k) * x (ix3 b ⟨256 + r.val, by omega⟩ k))
        (Ideal.ofBits .f32 0x44800000#32) + Ideal.ofBits .f32 0x358637BD#32)
    * g (ix1 l)

/-- Its whole array, from device `c`'s arguments. -/
def out (c : Dev nD) : Buf (Elt Ideal) ((c : Thread nD τ).loc main_v1) := fun i : S8x4096x1024.Idx =>
  normed (m ((c : Thread nD τ).loc main_arg0)) (m ((c : Thread nD τ).loc main_arg1)) (i 0) (i 1) (i 2)

/-- Which block each point takes of each array. -/
theorem index_facts : ∀ t : Fin cfg0.N,
    (win0_0.index t 0 = t.val / 16 ∧ win0_0.index t 1 = t.val % 16 + 1 ∧ win0_0.index t 2 = 0)
    ∧ (win0_1.index t 0 = 0 ∧ win0_1.index t 1 = 0)
    ∧ (win0_2.index t 0 = t.val / 16 ∧ win0_2.index t 1 = t.val % 16 ∧ win0_2.index t 2 = 0) :=
  (by decide +kernel : ∀ t : Fin grid0.N,
    (win0_0.index t 0 = t.val / 16 ∧ win0_0.index t 1 = t.val % 16 + 1 ∧ win0_0.index t 2 = 0)
    ∧ (win0_1.index t 0 = 0 ∧ win0_1.index t 1 = 0)
    ∧ (win0_2.index t 0 = t.val / 16 ∧ win0_2.index t 1 = t.val % 16 ∧ win0_2.index t 2 = 0))

theorem lt_128 (t : Fin cfg0.N) : t.val < 128 := lt_of_lt_of_eq t.isLt (show cfg0.N = 128 from N_0)

/-- The residual's block at point `t`, read at an index. -/
theorem residual_block (c : Dev nD) (t : Fin cfg0.N) (r : Fin 256) (l : Fin 1024) :
    (iblk m c 0 t : Vec Ideal S1x256x1024 .f32) (ix3 0 r l)
      = m ((c : Thread nD τ).loc main_arg0) (ix3 (⟨t.val / 16, by have := lt_128 t; omega⟩ : Fin 8)
          (⟨256 + (t.val % 16 * 256 + r.val), by omega⟩ : Fin 4352) l) := by
  obtain ⟨⟨e0, e1, e2⟩, -, -⟩ := index_facts t
  rw [← V_main_arg0 m c]
  show V m c (Pipeline.arrRef spec0 0) _ = _
  refine congrArg (V m c (Pipeline.arrRef spec0 0)) (funext fun a => Fin.ext ?_)
  match a with
  | ⟨0, _⟩ => show win0_0.index t 0 * 1 + 1 * 0 = t.val / 16; rw [e0]; omega
  | ⟨1, _⟩ => show win0_0.index t 1 * 256 + 1 * r.val = 256 + (t.val % 16 * 256 + r.val); rw [e1]; omega
  | ⟨2, _⟩ => show win0_0.index t 2 * 1024 + 1 * l.val = l.val; rw [e2]; omega

/-- The gain's block at any point: the whole row. -/
theorem gain_block (c : Dev nD) (t : Fin cfg0.N) (l : Fin 1024) :
    (iblk m c 1 t : Vec Ideal S1x1024 .f32) (ix2 0 l) = m ((c : Thread nD τ).loc main_arg1) (ix1 l) := by
  obtain ⟨-, ⟨e0, e1⟩, -⟩ := index_facts t
  have hv : V m c (Pipeline.arrRef spec0 1) = shapeCast S1x1024 (m ((c : Thread nD τ).loc main_arg1)) shapeCasts_S1024_S1x1024 := by
    show StableHlo.after hostOps0 (fun b => m (c, b)) main_v0 = _
    after_results
    rfl
  have : (iblk m c 1 t : Vec Ideal S1x1024 .f32) (ix2 0 l) = V m c (Pipeline.arrRef spec0 1) (ix2 (0 : Fin 1) l) := by
    show V m c (Pipeline.arrRef spec0 1) _ = _
    refine congrArg (V m c (Pipeline.arrRef spec0 1)) (funext fun a => Fin.ext ?_)
    match a with
    | ⟨0, _⟩ => show win0_1.index t 0 * 1 + 1 * 0 = 0; rw [e0]
    | ⟨1, _⟩ => show win0_1.index t 1 * 1024 + 1 * l.val = l.val; rw [e1]; omega
  rw [this, hv]
  pointwise

/-- What one point computes, at an index of its block. -/
theorem payload_apply (x : Vec Ideal S1x256x1024 .f32) (g : Vec Ideal S1x1024 .f32) (r : Fin 256) (l : Fin 1024) :
    k0_pay1 x g (ix3 0 r l) = x (ix3 0 r l)
      * Ideal.rsqrt (Ideal.div (∑ k : Fin 1024, x (ix3 0 r k) * x (ix3 0 r k))
          (Ideal.ofBits .f32 0x44800000#32) + Ideal.ofBits .f32 0x358637BD#32) * g (ix2 0 l) := by
  pointwise [k0_pay1]

theorem zero3 : (![0, 0, 0] : Fin 3 → Nat) = fun _ => 0 := funext fun a => by fin_cases a <;> rfl
theorem zero2 : (![0, 0] : Fin 2 → Nat) = fun _ => 0 := funext fun a => by fin_cases a <;> rfl

/-- What point `t` writes back is its block of `out`. -/
theorem flushed_eq (c : Dev nD) (t : Fin cfg0.N) :
    (dats m 0 c).flushed 2 t = (win0_2.blk t).view.read (Elt Ideal) (out m c) := by
  rw [Value.flushed2]
  unfold out0_2
  rw [View.canon_unit_zero zero3, View.ld_unit_zero zero3, View.ld_unit_zero zero2]
  obtain ⟨-, -, e0, e1, e2⟩ := index_facts t
  have ht := lt_128 t
  refine funext fun y : S1x256x1024.Idx => ?_
  show k0_pay1 (iblk m c 0 t) (iblk m c 1 t) y = out m c _
  obtain ⟨r, l, rfl⟩ : ∃ (r : Fin 256) (l : Fin 1024), y = ix3 0 r l :=
    ⟨y 1, y 2, by rw [eq_ix3 y]; congr 1; exact Subsingleton.elim (α := Fin 1) _ _⟩
  rw [payload_apply]
  simp only [residual_block, gain_block]
  have key : ∀ i : S8x4096x1024.Idx, i = ix3 (⟨t.val / 16, by omega⟩ : Fin 8)
      (⟨t.val % 16 * 256 + r.val, by omega⟩ : Fin 4096) l →
      normed (m ((c : Thread nD τ).loc main_arg0)) (m ((c : Thread nD τ).loc main_arg1)) ⟨t.val / 16, by omega⟩
        ⟨t.val % 16 * 256 + r.val, by omega⟩ l = out m c i := by
    rintro i rfl; rfl
  refine key _ (funext fun a => Fin.ext ?_)
  match a with
  | ⟨0, _⟩ => show win0_2.index t 0 * 1 + 1 * 0 = t.val / 16; rw [e0]; omega
  | ⟨1, _⟩ => show win0_2.index t 1 * 256 + 1 * r.val = t.val % 16 * 256 + r.val; rw [e1]; omega
  | ⟨2, _⟩ => show win0_2.index t 2 * 1024 + 1 * l.val = l.val; rw [e2]; omega

/-- An index of the result is in point `t`'s block. -/
theorem mem_blk (t : Fin cfg0.N) (i : S8x4096x1024.Idx) (h0 : (i 0).val = t.val / 16) (h1 : (i 1).val / 256 = t.val % 16) :
    i ∈ ((cfg0.win 2).blk t).view.set := by
  show i ∈ ((View.whole main_v1).slice (win0_2.rect t)).set
  rw [View.set_slice_whole, Rect.mem_set_unit]
  obtain ⟨-, -, e0, e1, e2⟩ := index_facts t
  have l2 : (i 2).val < 1024 := (i 2).isLt
  intro a
  match a with
  | ⟨0, _⟩ => show win0_2.index t 0 * 1 ≤ (i 0).val ∧ (i 0).val < win0_2.index t 0 * 1 + 1; rw [e0]; omega
  | ⟨1, _⟩ => show win0_2.index t 1 * 256 ≤ (i 1).val ∧ (i 1).val < win0_2.index t 1 * 256 + 256; rw [e1]; omega
  | ⟨2, _⟩ => show win0_2.index t 2 * 1024 ≤ (i 2).val ∧ (i 2).val < win0_2.index t 2 * 1024 + 1024; rw [e2]; omega

/-- The blocks fill the result. -/
theorem cover (i : S8x4096x1024.Idx) :
    ∃ t : Fin cfg0.N, (cfg0.win 2).flush t = true ∧ i ∈ ((cfg0.win 2).blk t).view.set := by
  have h0 : (i 0).val < 8 := (i 0).isLt
  have h1 : (i 1).val < 4096 := (i 1).isLt
  have hN : cfg0.N = 128 := N_0
  refine ⟨⟨(i 0).val * 16 + (i 1).val / 256, by omega⟩, flush0_2 _, mem_blk _ i ?_ ?_⟩ <;> dsimp only <;> omega

/-- The run: the result is `out`, the arguments are unchanged. -/
theorem run : θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans
      ((dats m 0 c).arrAt_eq_of_cover 2 (out m c) (fun t _ => flushed_eq m c t) cover), (h c).2⟩)
    (Value.run_blocks m ρ)

/-- The frames of the final norm's three programs. -/
theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The idealization changes nothing. -/
theorem preserves : Cert.preserves_Kernel2_Kernel2Ideal := trivial

/-- The kernel's result is the reference's. -/
theorem algebraic : Cert.algebraic_Kernel2Ideal_Reference2Ideal := by
  intro m ρ m' ρ' _ hagree
  refine ⟨fun c => out m c, run m ρ, ?_⟩
  refine (θ_run Cert.Reference2Ideal.defs _ _).mono (fun _ h c => ⟨(h c).1.trans ?_, (h c).2⟩)
    (Cert.Reference2Ideal.Value.run (F := Ideal) m' ρ')
  rw [(hagree c).1, (hagree c).2]
  refine funext fun i : S8x4096x1024.Idx => ?_
  idx_vars i
  show _ = normed _ _ _ _ _
  unfold normed
  pointwise

end Cert.FinalNorm

end
-- ==== Proof.MoeTile.lean ====
/- One grid point of the experts' kernel on whole buffers: what it leaves in the output block and in the two weight
   scratches, for a point that loads its expert's weights, a point that keeps the weights of the point before, and a
   point past the used rows. -/
module

public import proofs.«01_k».proof.Proof.Gen.Kernel3Ideal.Skeleton
public import proofs.«01_k».proof.Proof.Gen.Kernel3Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Init
public import Idealize.ShloMosaic.Lib.Pointwise
public import Mathlib.Tactic.IntervalCases

@[expose] public section

set_option maxRecDepth 16384
set_option Elab.async false

noncomputable section

namespace Cert.Moe

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables, the whole buffers the body reads its words from. -/
abbrev experts : Memref sig .tc .smem S576 .i32 := Memref.whole main_arg0
abbrev used : Memref sig .tc .smem S1 .i32 := Memref.whole main_arg1
/-- The two scratches: the current expert's weights at the products' width. -/
abbrev upCopy : Memref sig .tc .vmem S1024x2048 .bf16 := Memref.whole cc0_scratch0
abbrev downCopy : Memref sig .tc .vmem S1024x1024 .bf16 := Memref.whole cc0_scratch1

/-- The number of blocks in use, as the body reads it. -/
abbrev usedWord (T1 : used.view.ty.Contents (Elt F)) : BitVec 32 :=
  View.readAt (Elt F) used.view (Rect.unit (s := S1) ![0] S1.size inb_S1_S1_0).toLoadRect T1 (Shape.Idx.first (numel1_S1.symm ▸ Nat.one_pos))
/-- The expert of the grid point, as the body reads it; -/
abbrev expertWord (i : grid0.Coords) (T0 : experts.view.ty.Contents (Elt F)) : BitVec 32 :=
  View.readAt (Elt F) experts.view (Rect.unit (s := S576) (k0_off3 i) S1.size (k0_off3_inb i)).toLoadRect T0 (Shape.Idx.first (numel1_S1.symm ▸ Nat.one_pos))
/-- and the expert of the point before. -/
abbrev expertBefore (i : grid0.Coords) (T0 : experts.view.ty.Contents (Elt F)) : BitVec 32 :=
  View.readAt (Elt F) experts.view (Rect.unit (s := S576) (k0_off2 i) S1.size (k0_off2_inb i)).toLoadRect T0 (Shape.Idx.first (numel1_S1.symm ▸ Nat.one_pos))
/-- Whether the point loads its expert's weights: the first one, or the expert changed. -/
abbrev loads (i : grid0.Coords) (T0 : experts.view.ty.Contents (Elt F)) : BitVec 1 :=
  Scalar.cmpi .ne (Scalar.extui (Scalar.ori (Scalar.cmpi .eq (BitVec.ofNat 32 (i 0).val) 0#32) (Scalar.cmpi .ne (expertWord i T0) (expertBefore i T0)))) 0#32

/-- Slab `s` of a block of tiles: lanes `128 s …` of its rows. -/
def slab (x : S2048x128.Idx → Elt F .f32) (s : Fin 8) : Vec F S256x128 .f32 := fun i =>
  x (ix2 (⟨s.val + 8 * (i 0).val, by have := (i 0).isLt; have : (S256x128.size 0) = 256 := rfl; omega⟩ : Fin 2048) (i 1))

/-- The block's rows through the two products. -/
def rows (x : S2048x128.Idx → Elt F .f32) (wu : Vec F S1024x2048 .bf16) (bu : Vec F S1x1x1x2048 .f32)
    (wd : Vec F S1024x1024 .bf16) (bd : Vec F S1x1x1x1024 .f32) : FVec F S256x1024 .f32 :=
  k0_pay10 (k0_pay9 (slab x 0) (slab x 1) (slab x 2) (slab x 3) (slab x 4) (slab x 5) (slab x 6) (slab x 7) wu) bu wd bd

/-- The block's tiles: row `r`, lane `l` of slab `s` is at tile row `8 r + s`. -/
def tiles (y : FVec F S256x1024 .f32) : S2048x128.Idx → Elt F .f32 := fun j =>
  y (ix2 (⟨(j 0).val / 8, by have := (j 0).isLt; have : (S2048x128.size 0) = 2048 := rfl; omega⟩ : Fin 256)
    (⟨(j 0).val % 8 * 128 + (j 1).val, by have := (j 1).isLt; have : (S2048x128.size 1) = 128 := rfl; omega⟩ : Fin 1024))

theorem readAt_rep_apply {κ : Kind} {sp : Space} {s : Shape} {e : EltTy} (v : View sig κ sp s e) (r : LoadRect s)
    (x : s.Idx → Elt F e) : v.readAt (Elt F) r (v.rep x) = fun i => x (r.idx i) := by
  funext i; rw [View.readAt_apply, View.read_rep]

/-- A strided load of a block of tiles is its slab. -/
theorem load_slab {κ : Kind} {sp : Space} (v : View sig κ sp S2048x128 .f32) (x : S2048x128.Idx → Elt F .f32) (s : Fin 8)
    (inb : ∀ a, S256x128.size a = 0 ∨ (![s.val, 0] : Fin 2 → ℕ) a + (![8, 1] : Fin 2 → ℕ) a * (S256x128.size a - 1) < S2048x128.size a) :
    v.readAt (Elt F) (⟨![s.val, 0], S256x128.size, ![8, 1], inb⟩ : LoadRect S2048x128) (v.rep x) = slab x s := by
  rw [readAt_rep_apply]; funext i
  refine congrArg x (funext fun a => Fin.ext ?_)
  match a with
  | ⟨0, _⟩ => rfl
  | ⟨1, _⟩ => show 0 + 1 * (i 1).val = (i 1).val; omega

/-- The store of one slab's rows, at stride 8. -/
abbrev slabRect (s : Fin 8) (inb : ∀ a, S256x128.size a = 0 ∨ (![s.val, 0] : Fin 2 → ℕ) a + (![8, 1] : Fin 2 → ℕ) a * (S256x128.size a - 1) < S2048x128.size a) : Rect S2048x128 :=
  ⟨⟨![s.val, 0], S256x128.size, ![8, 1], inb⟩, spos_8_1⟩

theorem slice_tiles (y : FVec F S256x1024 .f32) (s : Fin 8) (n : ℕ) (hn : n = s.val * 128)
    (inb : ∀ a, S256x128.size a = 0 ∨ (![s.val, 0] : Fin 2 → ℕ) a + (![8, 1] : Fin 2 → ℕ) a * (S256x128.size a - 1) < S2048x128.size a)
    (h : S256x1024.Slices ![0, n] S256x128) (x : (slabRect s inb).shape.Idx) :
    extractStridedSlice S256x128 ![0, n] y h x = tiles y ((slabRect s inb).emb x) := by
  subst hn
  refine congrArg y (funext fun a => Fin.ext ?_)
  have hs := s.isLt
  have h0 : (((slabRect s inb).emb x) 0).val = s.val + 8 * (x 0).val := rfl
  have h1 : (((slabRect s inb).emb x) 1).val = 0 + 1 * (x 1).val := rfl
  match a with
  | ⟨0, _⟩ => show 0 + _ = (((slabRect s inb).emb x) 0).val / 8; rw [h0]; show 0 + (x 0).val = _; omega
  | ⟨1, _⟩ => show s.val * 128 + (x 1).val = (((slabRect s inb).emb x) 0).val % 8 * 128 + (((slabRect s inb).emb x) 1).val; rw [h0, h1]; omega

theorem mem_slab (j : S2048x128.Idx) (s : Fin 8) (hs : (j 0).val % 8 = s.val)
    (inb : ∀ a, S256x128.size a = 0 ∨ (![s.val, 0] : Fin 2 → ℕ) a + (![8, 1] : Fin 2 → ℕ) a * (S256x128.size a - 1) < S2048x128.size a) :
    j ∈ (slabRect s inb).set := by
  have e : (slabRect s inb).emb (ix2 (⟨(j 0).val / 8, by have := (j 0).isLt; have : (S2048x128.size 0) = 2048 := rfl; omega⟩ : Fin 256) (j 1)) = j := by
    refine funext fun a => Fin.ext ?_
    match a with
    | ⟨0, _⟩ => show s.val + 8 * ((j 0).val / 8) = (j 0).val; omega
    | ⟨1, _⟩ => show 0 + 1 * (j 1).val = (j 1).val; omega
  rw [← e]; exact (slabRect s inb).idx_mem _

theorem read_eight {κ : Kind} {sp : Space} (v : View sig κ sp S2048x128 .f32) (f : v.ty.Contents (Elt F)) (G : S2048x128.Idx → Elt F .f32) (j : S2048x128.Idx)
    (p : Fin 8 → View.Piece (Elt F) S2048x128 .f32) (hG : ∀ s, ∀ x : (p s).1.shape.Idx, (p s).2 x = G ((p s).1.emb x)) (s : Fin 8) (hj : j ∈ (p s).1.set) :
    v.read (Elt F) (v.writes (Elt F) f [p 7, p 6, p 5, p 4, p 3, p 2, p 1, p 0]) j = G j := by
  refine View.read_writes_apply_of_pieces v f G _ ?_ j ⟨p s, ?_, hj⟩
  · intro q hq
    simp only [List.mem_cons, List.not_mem_nil, or_false] at hq
    rcases hq with rfl | rfl | rfl | rfl | rfl | rfl | rfl | rfl <;> exact hG _
  · simp only [List.mem_cons, List.not_mem_nil, or_false]
    match s with
    | ⟨0, _⟩ => exact .inr (.inr (.inr (.inr (.inr (.inr (.inr rfl))))))
    | ⟨1, _⟩ => exact .inr (.inr (.inr (.inr (.inr (.inr (.inl rfl))))))
    | ⟨2, _⟩ => exact .inr (.inr (.inr (.inr (.inr (.inl rfl)))))
    | ⟨3, _⟩ => exact .inr (.inr (.inr (.inr (.inl rfl))))
    | ⟨4, _⟩ => exact .inr (.inr (.inr (.inl rfl)))
    | ⟨5, _⟩ => exact .inr (.inr (.inl rfl))
    | ⟨6, _⟩ => exact .inr (.inl rfl)
    | ⟨7, _⟩ => exact .inl rfl

theorem slab_inb : ∀ (s : Fin 8) (a : Fin 2), S256x128.size a = 0 ∨ (![s.val, 0] : Fin 2 → ℕ) a + (![8, 1] : Fin 2 → ℕ) a * (S256x128.size a - 1) < S2048x128.size a := by
  decide
theorem slab_slices : ∀ s : Fin 8, S256x1024.Slices ![0, s.val * 128] S256x128 := by
  decide

/-- The store of slab `s` of the rows `y`. -/
abbrev slabPiece (y : FVec F S256x1024 .f32) (s : Fin 8) : View.Piece (Elt F) S2048x128 .f32 :=
  ⟨slabRect s (slab_inb s), extractStridedSlice S256x128 ![0, s.val * 128] y (slab_slices s)⟩

theorem read_slabs {κ : Kind} {sp : Space} (v : View sig κ sp S2048x128 .f32) (f : v.ty.Contents (Elt F)) (y : FVec F S256x1024 .f32) :
    v.read (Elt F) (v.writes (Elt F) f [slabPiece y 7, slabPiece y 6, slabPiece y 5, slabPiece y 4, slabPiece y 3, slabPiece y 2, slabPiece y 1, slabPiece y 0])
      = tiles y :=
  funext fun j => read_eight v f (tiles y) j (slabPiece y) (fun s x => slice_tiles y s _ rfl _ (slab_slices s) x)
    ⟨(j 0).val % 8, Nat.mod_lt _ (by decide)⟩ (mem_slab j _ rfl _)

theorem read_tiles {κ : Kind} {sp : Space} (v : View sig κ sp S2048x128 .f32) (f : v.ty.Contents (Elt F)) (y : FVec F S256x1024 .f32) :
    v.read (Elt F) (v.writes (Elt F) f
      [⟨⟨⟨![7, 0], S256x128.size, ![8, 1], inb_S2048x128_S256x128_7_0_s_8_1⟩, spos_8_1⟩, k0_pay5 y⟩,
       ⟨⟨⟨![6, 0], S256x128.size, ![8, 1], inb_S2048x128_S256x128_6_0_s_8_1⟩, spos_8_1⟩, k0_pay4 y⟩,
       ⟨⟨⟨![5, 0], S256x128.size, ![8, 1], inb_S2048x128_S256x128_5_0_s_8_1⟩, spos_8_1⟩, k0_pay3 y⟩,
       ⟨⟨⟨![4, 0], S256x128.size, ![8, 1], inb_S2048x128_S256x128_4_0_s_8_1⟩, spos_8_1⟩, k0_pay2 y⟩,
       ⟨⟨⟨![3, 0], S256x128.size, ![8, 1], inb_S2048x128_S256x128_3_0_s_8_1⟩, spos_8_1⟩, k0_pay1 y⟩,
       ⟨⟨⟨![2, 0], S256x128.size, ![8, 1], inb_S2048x128_S256x128_2_0_s_8_1⟩, spos_8_1⟩, extractStridedSlice S256x128 ![0, 256] y slices_S256x1024_o0_256_S256x128⟩,
       ⟨⟨⟨![1, 0], S256x128.size, ![8, 1], inb_S2048x128_S256x128_1_0_s_8_1⟩, spos_8_1⟩, extractStridedSlice S256x128 ![0, 128] y slices_S256x1024_o0_128_S256x128⟩,
       ⟨⟨⟨![0, 0], S256x128.size, ![8, 1], inb_S2048x128_S256x128_0_0_s_8_1⟩, spos_8_1⟩, extractStridedSlice S256x128 ![0, 0] y slices_S256x1024_o0_0_S256x128⟩]) = tiles y :=
  read_slabs v f y

theorem rows_loads (v3 : View sig .tc .vmem S2048x128 .f32) (v5 : View sig .tc .vmem S1x1x1x2048 .f32) (v7 : View sig .tc .vmem S1x1x1x1024 .f32)
    (x0 : S2048x128.Idx → Elt F .f32) (wu : Vec F S1024x2048 .bf16) (x2 : Vec F S1x1x1x2048 .f32) (wd : Vec F S1024x1024 .bf16) (x4 : Vec F S1x1x1x1024 .f32) :
    k0_pay10 (k0_pay9
        (v3.readAt (Elt F) ⟨![0, 0], S256x128.size, ![8, 1], inb_S2048x128_S256x128_0_0_s_8_1⟩ (v3.rep x0))
        (v3.readAt (Elt F) ⟨![1, 0], S256x128.size, ![8, 1], inb_S2048x128_S256x128_1_0_s_8_1⟩ (v3.rep x0))
        (v3.readAt (Elt F) ⟨![2, 0], S256x128.size, ![8, 1], inb_S2048x128_S256x128_2_0_s_8_1⟩ (v3.rep x0))
        (v3.readAt (Elt F) ⟨![3, 0], S256x128.size, ![8, 1], inb_S2048x128_S256x128_3_0_s_8_1⟩ (v3.rep x0))
        (v3.readAt (Elt F) ⟨![4, 0], S256x128.size, ![8, 1], inb_S2048x128_S256x128_4_0_s_8_1⟩ (v3.rep x0))
        (v3.readAt (Elt F) ⟨![5, 0], S256x128.size, ![8, 1], inb_S2048x128_S256x128_5_0_s_8_1⟩ (v3.rep x0))
        (v3.readAt (Elt F) ⟨![6, 0], S256x128.size, ![8, 1], inb_S2048x128_S256x128_6_0_s_8_1⟩ (v3.rep x0))
        (v3.readAt (Elt F) ⟨![7, 0], S256x128.size, ![8, 1], inb_S2048x128_S256x128_7_0_s_8_1⟩ (v3.rep x0)) wu)
      (v5.readAt (Elt F) (Rect.unit ![0, 0, 0, 0] S1x1x1x2048.size inb_S1x1x1x2048_S1x1x1x2048_0_0_0_0).toLoadRect (v5.rep x2)) wd
      (v7.readAt (Elt F) (Rect.unit ![0, 0, 0, 0] S1x1x1x1024.size inb_S1x1x1x1024_S1x1x1x1024_0_0_0_0).toLoadRect (v7.rep x4))
    = rows x0 wu x2 wd x4 := by
  unfold rows
  rw [View.readAt_rep_full, View.readAt_rep_full]
  rw [← load_slab v3 x0 0 inb_S2048x128_S256x128_0_0_s_8_1, ← load_slab v3 x0 1 inb_S2048x128_S256x128_1_0_s_8_1, ← load_slab v3 x0 2 inb_S2048x128_S256x128_2_0_s_8_1, ← load_slab v3 x0 3 inb_S2048x128_S256x128_3_0_s_8_1,
    ← load_slab v3 x0 4 inb_S2048x128_S256x128_4_0_s_8_1, ← load_slab v3 x0 5 inb_S2048x128_S256x128_5_0_s_8_1, ← load_slab v3 x0 6 inb_S2048x128_S256x128_6_0_s_8_1, ← load_slab v3 x0 7 inb_S2048x128_S256x128_7_0_s_8_1]
  rfl

end Cert.Moe

end
-- ==== Proof.MoeTables.lean ====
/- The experts' tables: what the body and the index maps read of them, and what the precondition makes of that. -/
module

public import proofs.«01_k».proof.Proof.MoeTile

@[expose] public section

set_option maxRecDepth 16384

noncomputable section

namespace Cert.Moe

open Cert.Kernel3Ideal Cert.Kernel3Ideal.Gen
open Idealize.ShloMosaic Idealize.ShloMosaic.TcCoe

variable {F : FTy → Type} [FloatOps F]

/-- Entry `k` of the experts' table, and the one entry of the count's. -/
def entry (k : Fin 576) : S576.Idx := fun a => match a with | ⟨0, _⟩ => k
def entry₁ : S1.Idx := fun a => match a with | ⟨0, _⟩ => (0 : Fin 1)

/-- Point `t`'s coordinate is `t`. -/
theorem coord (t : Fin grid0.N) : ((grid0.coords t) 0).val = t.val := by
  rw [Pipeline.Grid.coords_val t 0 (S := 1) (B := 576) (by decide) rfl, Nat.div_one]
  exact Nat.mod_eq_of_lt (lt_of_lt_of_eq t.isLt N_0)

theorem at_entry (T : S576.Idx → BitVec 32) (x : S576.Idx) (k : Fin 576) (h : (x 0).val = k.val) : T x = T (entry k) :=
  congrArg T (funext fun a => Fin.ext (match a with | ⟨0, _⟩ => h))
theorem at_entry₁ (T : S1.Idx → BitVec 32) (x : S1.Idx) : T x = T entry₁ := by
  have h : (x 0).val < 1 := (x 0).isLt
  have h0 : (x 0).val = 0 := by omega
  exact congrArg T (funext fun a => Fin.ext (match a with | ⟨0, _⟩ => h0))

/-- A one-word load at offset `o` reads entry `o`. -/
theorem at_offset (T : S576.Idx → BitVec 32) (x : S576.Idx) (k : Fin 576) (o : ℕ) (z : S1.Idx) (hx : (x 0).val = o + 1 * (z 0).val) (ho : o = k.val) :
    T x = T (entry k) := by
  have h : (z 0).val < 1 := (z 0).isLt
  exact at_entry T x k (by omega)

/-- The one index of a one-word load. -/
def one_word : S1.Idx := Shape.Idx.first (numel1_S1.symm ▸ Nat.one_pos)

theorem ofNat_lt {n : ℕ} (h : n < 576) : (BitVec.ofNat 32 n).toNat = n := by
  rw [BitVec.toNat_ofNat]; exact Nat.mod_eq_of_lt (by omega)

theorem usedWord_eq (T1 : used.view.ty.Contents (Elt F)) : usedWord T1 = (T1 : S1.Idx → BitVec 32) entry₁ := at_entry₁ T1 _

theorem expertWord_eq (i : grid0.Coords) (T0 : experts.view.ty.Contents (Elt F)) :
    expertWord i T0 = (T0 : S576.Idx → BitVec 32) (entry (i 0)) := by
  exact at_offset T0 _ (i 0) (BitVec.ofNat 32 (i 0).val).toNat one_word rfl (ofNat_lt (i 0).isLt)

/-- The point before (the first one's is itself). -/
def before (k : Fin 576) : Fin 576 := ⟨k.val - 1, by omega⟩

theorem pred_word : ∀ k : Fin 576, (Scalar.maxsi (Scalar.subi (BitVec.ofNat 32 k.val) 1#32) 0#32).toNat = k.val - 1 := by
  decide +kernel

theorem expertBefore_eq (i : grid0.Coords) (T0 : experts.view.ty.Contents (Elt F)) :
    expertBefore i T0 = (T0 : S576.Idx → BitVec 32) (entry (before (i 0))) := by
  exact at_offset T0 _ (before (i 0)) (Scalar.maxsi (Scalar.subi (BitVec.ofNat 32 (i 0).val) 1#32) 0#32).toNat one_word rfl (pred_word (i 0))

theorem flag_iff (b : Bool) : (Scalar.cmpi .ne ((Scalar.extui (BitVec.ofBool b) : BitVec 32)) 0#32 = 1#1) ↔ b = true := by
  cases b <;> decide

/-- Signed comparison of words that are counts. -/
theorem slt_small {k : ℕ} (hk : k < 576) {n : BitVec 32} (hn : n.toNat < 2147483648) : (BitVec.ofNat 32 k).slt n = decide (k < n.toNat) := by
  have e := ofNat_lt hk
  rw [BitVec.slt_eq_decide, BitVec.toInt_eq_toNat_of_lt (by rw [e]; omega), BitVec.toInt_eq_toNat_of_lt (by omega), e]
  simp
theorem sle_small {k : ℕ} (hk : k < 576) {n : BitVec 32} (hn : n.toNat < 2147483648) : n.sle (BitVec.ofNat 32 k) = decide (n.toNat ≤ k) := by
  have e := ofNat_lt hk
  rw [BitVec.sle_eq_decide, BitVec.toInt_eq_toNat_of_lt (x := BitVec.ofNat 32 k) (by rw [e]; omega), BitVec.toInt_eq_toNat_of_lt (by omega), e]
  simp

theorem cond1_iff (i : grid0.Coords) {n : BitVec 32} (hn : n.toNat < 2147483648) : k0_cond1 i n = 1#1 ↔ (i 0).val < n.toNat := by
  refine (flag_iff ((BitVec.ofNat 32 (i 0).val).slt n)).trans ?_
  rw [slt_small (i 0).isLt hn, decide_eq_true_iff]
theorem cond3_iff (i : grid0.Coords) {n : BitVec 32} (hn : n.toNat < 2147483648) : k0_cond3 i n = 1#1 ↔ n.toNat ≤ (i 0).val := by
  refine (flag_iff (n.sle (BitVec.ofNat 32 (i 0).val))).trans ?_
  rw [sle_small (i 0).isLt hn, decide_eq_true_iff]

theorem eq_zero_word : ∀ k : Fin 576, (BitVec.ofNat 32 k.val == 0#32) = decide (k.val = 0) := by
  decide +kernel

theorem or_flags (p q : Bool) : BitVec.ofBool p ||| BitVec.ofBool q = BitVec.ofBool (p || q) := by
  cases p <;> cases q <;> rfl

theorem changed_iff (k : Fin 576) (a b : BitVec 32) :
    Scalar.cmpi .ne (Scalar.extui (Scalar.ori (Scalar.cmpi .eq (BitVec.ofNat 32 k.val) 0#32) (Scalar.cmpi .ne a b)) : BitVec 32) 0#32 = 1#1 ↔ k.val = 0 ∨ a ≠ b := by
  rw [show Scalar.ori (Scalar.cmpi .eq (BitVec.ofNat 32 k.val) 0#32) (Scalar.cmpi .ne a b) = BitVec.ofBool ((BitVec.ofNat 32 k.val == 0#32) || (a != b))
    from or_flags _ _, flag_iff, Bool.or_eq_true, eq_zero_word, decide_eq_true_iff, bne_iff_ne]

/-- A point loads its expert's weights where the expert changed, and at the first point. -/
theorem loads_iff (i : grid0.Coords) (T0 : experts.view.ty.Contents (Elt F)) :
    loads i T0 = 1#1 ↔ (i 0).val = 0 ∨ (T0 : S576.Idx → BitVec 32) (entry (i 0)) ≠ (T0 : S576.Idx → BitVec 32) (entry (before (i 0))) := by
  unfold loads
  rw [expertWord_eq, expertBefore_eq]
  exact changed_iff (i 0) _ _

/-- Tables that name experts and count at least one block. -/
structure Good (pf : pre0.Contents (Elt F)) : Prop where
  expert : ∀ k : Fin 576, BitVec.toNat ((pf 0 : S576.Idx → BitVec 32) (entry k)) < 32
  pos : 1 ≤ BitVec.toNat ((pf 1 : S1.Idx → BitVec 32) entry₁)
  lt : BitVec.toNat ((pf 1 : S1.Idx → BitVec 32) entry₁) < 2147483648

/-- Point `k`'s expert, and the number of blocks in use. -/
def expert (pf : pre0.Contents (Elt F)) (k : Fin 576) : ℕ := BitVec.toNat ((pf 0 : S576.Idx → BitVec 32) (entry k))
def count (pf : pre0.Contents (Elt F)) : ℕ := BitVec.toNat ((pf 1 : S1.Idx → BitVec 32) entry₁)

theorem map_expert (pf : pre0.Contents (Elt F)) (i : grid0.Coords) :
    (pf.at 0 (Rect.unit (s := S576) (k0_off1 i) S1.size (k0_off1_inb i)) numel1_S1 : BitVec 32) = (pf 0 : S576.Idx → BitVec 32) (entry (i 0)) := by
  exact at_offset (pf 0) _ (i 0) (BitVec.ofNat 32 (i 0).val).toNat one_word rfl (ofNat_lt (i 0).isLt)

theorem map1 (pf : pre0.Contents (Elt F)) (i : grid0.Coords) : cc0_transform_1 k0_off1_inb numel1_S1 pf i = ![3, expert pf (i 0), 0, 0] :=
  congrArg (fun w : BitVec 32 => ![3, w.toNat, 0, 0]) (map_expert pf i)
theorem map2 (pf : pre0.Contents (Elt F)) (i : grid0.Coords) : cc0_transform_2 k0_off1_inb numel1_S1 pf i = ![3, expert pf (i 0), 0, 0] := map1 pf i
theorem map3 (pf : pre0.Contents (Elt F)) (i : grid0.Coords) : cc0_transform_3 k0_off1_inb numel1_S1 pf i = ![3, expert pf (i 0), 0, 0] := map1 pf i
theorem map4 (pf : pre0.Contents (Elt F)) (i : grid0.Coords) : cc0_transform_4 k0_off1_inb numel1_S1 pf i = ![3, expert pf (i 0), 0, 0] := map1 pf i

theorem pred_count {n : BitVec 32} (h1 : 1 ≤ n.toNat) : (Scalar.subi n 1#32).toNat = n.toNat - 1 := by
  show (n - 1#32).toNat = _
  rw [BitVec.toNat_sub]
  have := n.isLt
  simp
  omega

theorem min_word {k : ℕ} (hk : k < 576) {n : BitVec 32} (h1 : 1 ≤ n.toNat) (hn : n.toNat < 2147483648) :
    (Scalar.minsi (BitVec.ofNat 32 k) (Scalar.subi n 1#32)).toNat = min k (n.toNat - 1) := by
  have e := pred_count h1
  show (if (BitVec.ofNat 32 k).slt (Scalar.subi n 1#32) then BitVec.ofNat 32 k else Scalar.subi n 1#32).toNat = _
  rw [slt_small hk (by omega), e]
  split <;> rename_i h <;> simp only [decide_eq_true_eq] at h
  · rw [ofNat_lt hk]; omega
  · rw [e]; omega

theorem map0 {pf : pre0.Contents (Elt F)} (hg : Good pf) (i : grid0.Coords) :
    cc0_transform_0 inb_S1_S1_0 numel1_S1 pf i = ![min (i 0).val (count pf - 1), 0] := by
  refine (congrArg (fun w : BitVec 32 => ![(Scalar.minsi (BitVec.ofNat 32 (i 0).val) (Scalar.subi w 1#32)).toNat, 0])
    (show (pf.at 1 (Rect.unit (s := S1) ![0] S1.size inb_S1_S1_0) numel1_S1 : BitVec 32) = (pf 1 : S1.Idx → BitVec 32) entry₁ from at_entry₁ (pf 1) _)).trans ?_
  exact congrArg (fun k : ℕ => ![k, 0]) (min_word (i 0).isLt hg.pos hg.lt)

/-- Every block the tables name is inside its array. -/
theorem ok_of_good {pf : pre0.Contents (Elt F)} (hg : Good pf) : ok0 pf := by
  have he : ∀ k, expert pf k < 32 := hg.expert
  refine ⟨fun i => ⟨?_, .inl rfl⟩, fun i => ⟨?_, .inl rfl⟩, fun i => ⟨?_, .inl rfl⟩, fun i => ⟨?_, .inl rfl⟩, fun i => ⟨?_, .inl rfl⟩⟩
  · intro a
    have := (i 0).isLt
    have : grid0.bound 0 = 576 := rfl
    rw [map0 hg]
    match a with
    | ⟨0, _⟩ => show (min (i 0).val (count pf - 1) + 1) * 2048 ≤ 1179648; omega
    | ⟨1, _⟩ => show (0 + 1) * 128 ≤ 128; omega
  · intro a
    have h := he (i 0)
    rw [map1]
    match a with
    | ⟨0, _⟩ => show (3 + 1) * 1 ≤ 4; omega
    | ⟨1, _⟩ => show (expert pf (i 0) + 1) * 1 ≤ 32; omega
    | ⟨2, _⟩ => show (0 + 1) * 1024 ≤ 1024; omega
    | ⟨3, _⟩ => show (0 + 1) * 2048 ≤ 2048; omega
  · intro a
    have h := he (i 0)
    rw [map2]
    match a with
    | ⟨0, _⟩ => show (3 + 1) * 1 ≤ 4; omega
    | ⟨1, _⟩ => show (expert pf (i 0) + 1) * 1 ≤ 32; omega
    | ⟨2, _⟩ => show (0 + 1) * 1 ≤ 1; omega
    | ⟨3, _⟩ => show (0 + 1) * 2048 ≤ 2048; omega
  · intro a
    have h := he (i 0)
    rw [map3]
    match a with
    | ⟨0, _⟩ => show (3 + 1) * 1 ≤ 4; omega
    | ⟨1, _⟩ => show (expert pf (i 0) + 1) * 1 ≤ 32; omega
    | ⟨2, _⟩ => show (0 + 1) * 1024 ≤ 1024; omega
    | ⟨3, _⟩ => show (0 + 1) * 1024 ≤ 1024; omega
  · intro a
    have h := he (i 0)
    rw [map4]
    match a with
    | ⟨0, _⟩ => show (3 + 1) * 1 ≤ 4; omega
    | ⟨1, _⟩ => show (expert pf (i 0) + 1) * 1 ≤ 32; omega
    | ⟨2, _⟩ => show (0 + 1) * 1 ≤ 1; omega
    | ⟨3, _⟩ => show (0 + 1) * 1024 ≤ 1024; omega

/-- The output is written at every point. -/
theorem not_idle {pf : pre0.Contents (Elt F)} (hg : Good pf) (i : grid0.Coords) : idle0 pf 5 i = false := by
  show (!(k0_cond1 i (pf.atD 1 ![0] : BitVec 32) == 1#1) && !(k0_cond3 i (pf.atD 1 ![0] : BitVec 32) == 1#1)) = false
  have e : (pf.atD 1 ![0] : BitVec 32) = (pf 1 : S1.Idx → BitVec 32) entry₁ :=
    (dif_pos (by decide)).trans (at_entry₁ (pf 1) _)
  rw [e]
  rcases Nat.lt_or_ge (i 0).val (BitVec.toNat ((pf 1 : S1.Idx → BitVec 32) entry₁)) with h | h
  · rw [(cond1_iff i hg.lt).mpr h]; rfl
  · rw [(cond3_iff i hg.lt).mpr h, Bool.and_eq_false_iff]; exact .inr rfl

end Cert.Moe

end
-- ==== Proof.MoeBlocks.lean ====
/- The experts' pipeline at tables in range: its windows' blocks, and what it carries from point to point. -/
module

public import proofs.«01_k».proof.Proof.MoeTables

@[expose] public section

set_option maxRecDepth 16384
set_option Elab.async false

noncomputable section

namespace Cert.Moe

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- A view's element at the position its embedding gives. -/
theorem read_at {σ : RefSig} {κ : Kind} {sp : Space} {sh : Shape} {e : EltTy} (v : View σ κ sp sh e) (f : v.ty.Contents (Elt F)) (x : sh.Idx) (y)
    (h : v.emb x = y) : v.read (Elt F) f x = cast (congrArg (Elt F) v.elt_eq) (f y) := by rw [View.read_apply, h]

variable {pf : pre0.Contents (Elt F)} (hg : Good pf)

/-- The pipeline at the tables. -/
abbrev adm : (pcfg0 (F := F)).Adm := ⟨pf, ok_of_good hg⟩
abbrev cfgA : Cfg sig Λ₀ := cfg0 (F := F) (adm hg)
abbrev pcs : Fin 1 → Cfg sig Λ₀ := Pipeline.pin (pcfgs (F := F)) fun _ => adm hg

abbrev crd (t : Fin (cfgA hg).N) : grid0.Coords := grid0.coords t

/-- Point `t` as a position of the tables. -/
def pos (t : Fin (cfgA hg).N) : Fin 576 := ⟨t.val, lt_of_lt_of_eq t.isLt N_0⟩

theorem crd_pos (t : Fin (cfgA hg).N) : crd hg t 0 = pos hg t := Fin.ext (coord t)

abbrev ms0 (t : Fin (cfgA hg).N) : Memref sig .tc .vmem S2048x128 .f32 := spec0_0.stage ((cfgA hg).slots t (0 : Fin 6))
abbrev hs0 (t : Fin (cfgA hg).N) : (ms0 hg t).IsWhole := hstage0_0 (((cfgA hg).slots t (0 : Fin 6)).cast nbuf0_0)
abbrev ms1 (t : Fin (cfgA hg).N) : Memref sig .tc .vmem S1x1x1024x2048 .f32 := spec0_1.stage ((cfgA hg).slots t (1 : Fin 6))
abbrev hs1 (t : Fin (cfgA hg).N) : (ms1 hg t).IsWhole := hstage0_1 (((cfgA hg).slots t (1 : Fin 6)).cast nbuf0_1)
abbrev ms2 (t : Fin (cfgA hg).N) : Memref sig .tc .vmem S1x1x1x2048 .f32 := spec0_2.stage ((cfgA hg).slots t (2 : Fin 6))
abbrev hs2 (t : Fin (cfgA hg).N) : (ms2 hg t).IsWhole := hstage0_2 (((cfgA hg).slots t (2 : Fin 6)).cast nbuf0_2)
abbrev ms3 (t : Fin (cfgA hg).N) : Memref sig .tc .vmem S1x1x1024x1024 .f32 := spec0_3.stage ((cfgA hg).slots t (3 : Fin 6))
abbrev hs3 (t : Fin (cfgA hg).N) : (ms3 hg t).IsWhole := hstage0_3 (((cfgA hg).slots t (3 : Fin 6)).cast nbuf0_3)
abbrev ms4 (t : Fin (cfgA hg).N) : Memref sig .tc .vmem S1x1x1x1024 .f32 := spec0_4.stage ((cfgA hg).slots t (4 : Fin 6))
abbrev hs4 (t : Fin (cfgA hg).N) : (ms4 hg t).IsWhole := hstage0_4 (((cfgA hg).slots t (4 : Fin 6)).cast nbuf0_4)
abbrev ms5 (t : Fin (cfgA hg).N) : Memref sig .tc .vmem S2048x128 .f32 := spec0_5.stage ((cfgA hg).slots t (5 : Fin 6))
abbrev hs5 (t : Fin (cfgA hg).N) : (ms5 hg t).IsWhole := hstage0_5 (((cfgA hg).slots t (5 : Fin 6)).cast nbuf0_5)

variable (V : (c : Dev nD) → (b : Ref sig .tc) → Buf (Elt F) ((c.tc : Thread nD τ).loc b)) (c : Dev nD)

/-- Window `w`'s block at point `t`, of the array's contents when the pipeline starts. -/
def iblk (w : Fin (cfgA hg).W) (t : Fin (cfgA hg).N) : (((cfgA hg).win w).xblock (crd hg t)).Idx → Elt F ((cfgA hg).win w).elt :=
  (((cfgA hg).win w).blk t).view.read (Elt F) (V c (Pipeline.arrRef spec0 w))

theorem index0 (t : Fin (cfgA hg).N) : cc0_transform_0 inb_S1_S1_0 numel1_S1 pf (crd hg t) = ![min t.val (count pf - 1), 0] :=
  (map0 hg (crd hg t)).trans (by rw [coord])
theorem index1 (t : Fin (cfgA hg).N) : cc0_transform_1 k0_off1_inb numel1_S1 pf (crd hg t) = ![3, expert pf (pos hg t), 0, 0] :=
  (map1 pf (crd hg t)).trans (by rw [crd_pos])
theorem index2 (t : Fin (cfgA hg).N) : cc0_transform_2 k0_off1_inb numel1_S1 pf (crd hg t) = ![3, expert pf (pos hg t), 0, 0] :=
  (map2 pf (crd hg t)).trans (by rw [crd_pos])
theorem index3 (t : Fin (cfgA hg).N) : cc0_transform_3 k0_off1_inb numel1_S1 pf (crd hg t) = ![3, expert pf (pos hg t), 0, 0] :=
  (map3 pf (crd hg t)).trans (by rw [crd_pos])
theorem index4 (t : Fin (cfgA hg).N) : cc0_transform_4 k0_off1_inb numel1_S1 pf (crd hg t) = ![3, expert pf (pos hg t), 0, 0] :=
  (map4 pf (crd hg t)).trans (by rw [crd_pos])
theorem index5 (t : Fin (cfgA hg).N) : cc0_transform_5 (crd hg t) = ![t.val, 0] :=
  congrArg (fun k : ℕ => ![k, 0]) ((ofNat_lt (crd hg t 0).isLt).trans (coord t))

theorem expert_lt (hg : Good pf) (k : Fin 576) : expert pf k < 32 := hg.expert k

/-- The block of rows: the point's own, the last one in use past it. -/
theorem rows_block (t : Fin (cfgA hg).N) (r : Fin 2048) (l : Fin 128) :
    (iblk hg V c 0 t : Vec F S2048x128 .f32) (ix2 r l)
      = (V c (Pipeline.arrRef spec0 0) : FVec F S1179648x128 .f32)
          (ix2 ⟨min t.val (count pf - 1) * 2048 + r.val, by have := (pos hg t).isLt; have : (pos hg t).val = t.val := rfl; omega⟩ l) := by
  have e : (((cfgA hg).win 0).blk t).view.emb (ix2 r l) = ix2 (⟨min t.val (count pf - 1) * 2048 + r.val, by have := (pos hg t).isLt; have : (pos hg t).val = t.val := rfl; omega⟩ : Fin 1179648) l := by
    refine funext fun a => Fin.ext ?_
    match a with
    | ⟨0, _⟩ => show cc0_transform_0 inb_S1_S1_0 numel1_S1 pf (crd hg t) 0 * 2048 + 1 * r.val = min t.val (count pf - 1) * 2048 + r.val; rw [index0]; show min t.val (count pf - 1) * 2048 + 1 * r.val = _; omega
    | ⟨1, _⟩ => show cc0_transform_0 inb_S1_S1_0 numel1_S1 pf (crd hg t) 1 * 128 + 1 * l.val = l.val; rw [index0]; show 0 * 128 + 1 * l.val = _; omega
  exact (read_at _ _ _ _ e).trans (cast_eq _ _)

theorem up_block (t : Fin (cfgA hg).N) (r : Fin 1024) (l : Fin 2048) :
    (iblk hg V c 1 t : Vec F S1x1x1024x2048 .f32) (ix4 0 0 r l)
      = (V c (Pipeline.arrRef spec0 1) : FVec F S4x32x1024x2048 .f32) (ix4 (3 : Fin 4) (⟨expert pf (pos hg t), expert_lt hg _⟩ : Fin 32) r l) := by
  have e : (((cfgA hg).win 1).blk t).view.emb (ix4 0 0 r l) = ix4 (3 : Fin 4) (⟨expert pf (pos hg t), expert_lt hg _⟩ : Fin 32) r l := by
    refine funext fun a => Fin.ext ?_
    match a with
    | ⟨0, _⟩ => show cc0_transform_1 k0_off1_inb numel1_S1 pf (crd hg t) 0 * 1 + 1 * 0 = 3; rw [index1]; rfl
    | ⟨1, _⟩ => show cc0_transform_1 k0_off1_inb numel1_S1 pf (crd hg t) 1 * 1 + 1 * 0 = expert pf (pos hg t); rw [index1]; show expert pf (pos hg t) * 1 + 1 * 0 = _; omega
    | ⟨2, _⟩ => show cc0_transform_1 k0_off1_inb numel1_S1 pf (crd hg t) 2 * 1024 + 1 * r.val = r.val; rw [index1]; show 0 * 1024 + 1 * r.val = _; omega
    | ⟨3, _⟩ => show cc0_transform_1 k0_off1_inb numel1_S1 pf (crd hg t) 3 * 2048 + 1 * l.val = l.val; rw [index1]; show 0 * 2048 + 1 * l.val = _; omega
  exact (read_at _ _ _ _ e).trans (cast_eq _ _)

theorem upBias_block (t : Fin (cfgA hg).N) (r : Fin 1) (l : Fin 2048) :
    (iblk hg V c 2 t : Vec F S1x1x1x2048 .f32) (ix4 0 0 r l)
      = (V c (Pipeline.arrRef spec0 2) : FVec F S4x32x1x2048 .f32) (ix4 (3 : Fin 4) (⟨expert pf (pos hg t), expert_lt hg _⟩ : Fin 32) r l) := by
  have e : (((cfgA hg).win 2).blk t).view.emb (ix4 0 0 r l) = ix4 (3 : Fin 4) (⟨expert pf (pos hg t), expert_lt hg _⟩ : Fin 32) r l := by
    refine funext fun a => Fin.ext ?_
    match a with
    | ⟨0, _⟩ => show cc0_transform_2 k0_off1_inb numel1_S1 pf (crd hg t) 0 * 1 + 1 * 0 = 3; rw [index2]; rfl
    | ⟨1, _⟩ => show cc0_transform_2 k0_off1_inb numel1_S1 pf (crd hg t) 1 * 1 + 1 * 0 = expert pf (pos hg t); rw [index2]; show expert pf (pos hg t) * 1 + 1 * 0 = _; omega
    | ⟨2, _⟩ => show cc0_transform_2 k0_off1_inb numel1_S1 pf (crd hg t) 2 * 1 + 1 * r.val = r.val; rw [index2]; show 0 * 1 + 1 * r.val = _; omega
    | ⟨3, _⟩ => show cc0_transform_2 k0_off1_inb numel1_S1 pf (crd hg t) 3 * 2048 + 1 * l.val = l.val; rw [index2]; show 0 * 2048 + 1 * l.val = _; omega
  exact (read_at _ _ _ _ e).trans (cast_eq _ _)

theorem down_block (t : Fin (cfgA hg).N) (r : Fin 1024) (l : Fin 1024) :
    (iblk hg V c 3 t : Vec F S1x1x1024x1024 .f32) (ix4 0 0 r l)
      = (V c (Pipeline.arrRef spec0 3) : FVec F S4x32x1024x1024 .f32) (ix4 (3 : Fin 4) (⟨expert pf (pos hg t), expert_lt hg _⟩ : Fin 32) r l) := by
  have e : (((cfgA hg).win 3).blk t).view.emb (ix4 0 0 r l) = ix4 (3 : Fin 4) (⟨expert pf (pos hg t), expert_lt hg _⟩ : Fin 32) r l := by
    refine funext fun a => Fin.ext ?_
    match a with
    | ⟨0, _⟩ => show cc0_transform_3 k0_off1_inb numel1_S1 pf (crd hg t) 0 * 1 + 1 * 0 = 3; rw [index3]; rfl
    | ⟨1, _⟩ => show cc0_transform_3 k0_off1_inb numel1_S1 pf (crd hg t) 1 * 1 + 1 * 0 = expert pf (pos hg t); rw [index3]; show expert pf (pos hg t) * 1 + 1 * 0 = _; omega
    | ⟨2, _⟩ => show cc0_transform_3 k0_off1_inb numel1_S1 pf (crd hg t) 2 * 1024 + 1 * r.val = r.val; rw [index3]; show 0 * 1024 + 1 * r.val = _; omega
    | ⟨3, _⟩ => show cc0_transform_3 k0_off1_inb numel1_S1 pf (crd hg t) 3 * 1024 + 1 * l.val = l.val; rw [index3]; show 0 * 1024 + 1 * l.val = _; omega
  exact (read_at _ _ _ _ e).trans (cast_eq _ _)

theorem downBias_block (t : Fin (cfgA hg).N) (r : Fin 1) (l : Fin 1024) :
    (iblk hg V c 4 t : Vec F S1x1x1x1024 .f32) (ix4 0 0 r l)
      = (V c (Pipeline.arrRef spec0 4) : FVec F S4x32x1x1024 .f32) (ix4 (3 : Fin 4) (⟨expert pf (pos hg t), expert_lt hg _⟩ : Fin 32) r l) := by
  have e : (((cfgA hg).win 4).blk t).view.emb (ix4 0 0 r l) = ix4 (3 : Fin 4) (⟨expert pf (pos hg t), expert_lt hg _⟩ : Fin 32) r l := by
    refine funext fun a => Fin.ext ?_
    match a with
    | ⟨0, _⟩ => show cc0_transform_4 k0_off1_inb numel1_S1 pf (crd hg t) 0 * 1 + 1 * 0 = 3; rw [index4]; rfl
    | ⟨1, _⟩ => show cc0_transform_4 k0_off1_inb numel1_S1 pf (crd hg t) 1 * 1 + 1 * 0 = expert pf (pos hg t); rw [index4]; show expert pf (pos hg t) * 1 + 1 * 0 = _; omega
    | ⟨2, _⟩ => show cc0_transform_4 k0_off1_inb numel1_S1 pf (crd hg t) 2 * 1 + 1 * r.val = r.val; rw [index4]; show 0 * 1 + 1 * r.val = _; omega
    | ⟨3, _⟩ => show cc0_transform_4 k0_off1_inb numel1_S1 pf (crd hg t) 3 * 1024 + 1 * l.val = l.val; rw [index4]; show 0 * 1024 + 1 * l.val = _; omega
  exact (read_at _ _ _ _ e).trans (cast_eq _ _)

/-- Points of one expert read one block. -/
theorem up_same (t u : Fin (cfgA hg).N) (h : expert pf (pos hg t) = expert pf (pos hg u)) :
    (iblk hg V c 1 t : Vec F S1x1x1024x2048 .f32) = (iblk hg V c 1 u : Vec F S1x1x1024x2048 .f32) := by
  refine funext fun (j : S1x1x1024x2048.Idx) => ?_
  have e : j = ix4 (0 : Fin 1) (0 : Fin 1) (j 2) (j 3) := by
    have h0 : (j 0).val < 1 := (j 0).isLt
    have h1 : (j 1).val < 1 := (j 1).isLt
    refine funext fun a => Fin.ext ?_
    match a with
    | ⟨0, _⟩ => show (j 0).val = 0; omega
    | ⟨1, _⟩ => show (j 1).val = 0; omega
    | ⟨2, _⟩ => rfl
    | ⟨3, _⟩ => rfl
  rw [e]
  refine (up_block hg V c t (j 2) (j 3)).trans (Eq.trans ?_ (up_block hg V c u (j 2) (j 3)).symm)
  exact congrArg (fun k : Fin 32 => (V c (Pipeline.arrRef spec0 1) : FVec F S4x32x1024x2048 .f32) (ix4 (3 : Fin 4) k (j 2) (j 3))) (Fin.ext h)

/-- Points of one expert read one block. -/
theorem down_same (t u : Fin (cfgA hg).N) (h : expert pf (pos hg t) = expert pf (pos hg u)) :
    (iblk hg V c 3 t : Vec F S1x1x1024x1024 .f32) = (iblk hg V c 3 u : Vec F S1x1x1024x1024 .f32) := by
  refine funext fun (j : S1x1x1024x1024.Idx) => ?_
  have e : j = ix4 (0 : Fin 1) (0 : Fin 1) (j 2) (j 3) := by
    have h0 : (j 0).val < 1 := (j 0).isLt
    have h1 : (j 1).val < 1 := (j 1).isLt
    refine funext fun a => Fin.ext ?_
    match a with
    | ⟨0, _⟩ => show (j 0).val = 0; omega
    | ⟨1, _⟩ => show (j 1).val = 0; omega
    | ⟨2, _⟩ => rfl
    | ⟨3, _⟩ => rfl
  rw [e]
  refine (down_block hg V c t (j 2) (j 3)).trans (Eq.trans ?_ (down_block hg V c u (j 2) (j 3)).symm)
  exact congrArg (fun k : Fin 32 => (V c (Pipeline.arrRef spec0 3) : FVec F S4x32x1024x1024 .f32) (ix4 (3 : Fin 4) k (j 2) (j 3))) (Fin.ext h)

end Cert.Moe

end
-- ==== Proof.MoeKeep.lean ====
/- The experts' kernel at a point that keeps the weights of the point before. -/
module

public import proofs.«01_k».proof.Proof.MoeTile

@[expose] public section

set_option maxRecDepth 16384
set_option Elab.async false

noncomputable section

namespace Cert.Moe

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- A used point whose expert is the point before's: the products of the weights held. -/
theorem run_keep (c : Dev nD) (i : grid0.Coords) (arg3 : Memref sig .tc .vmem S2048x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S2048x128 .f32) (harg8 : arg8.IsWhole)
    (T0 : experts.view.ty.Contents (Elt F)) (T1 : used.view.ty.Contents (Elt F))
    (x0 : S2048x128.Idx → Elt F .f32) (x1 : S1x1x1024x2048.Idx → Elt F .f32) (x2 : S1x1x1x2048.Idx → Elt F .f32) (x3 : S1x1x1024x1024.Idx → Elt F .f32) (x4 : S1x1x1x1024.Idx → Elt F .f32)
    (wu : S1024x2048.Idx → Elt F .bf16) (wd : S1024x1024.Idx → Elt F .bf16)
    (h1 : k0_cond1 i (usedWord T1) = 1#1) (hc1 : ¬ (loads i T0 = 1#1)) (h3 : ¬ (k0_cond3 i (usedWord T1) = 1#1)) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (experts.view.loc (c : Thread nD τ) ↦{fullShare.right} T0)
          ∗ (used.view.loc (c : Thread nD τ) ↦{fullShare.right} T1)
          ∗ (∃ d, owns (c : Thread nD τ) arg8 fullShare d)
          ∗ (upCopy.view.loc (c : Thread nD τ) ↦[upCopy.view.set]{fullShare} upCopy.view.rep wu)
          ∗ (downCopy.view.loc (c : Thread nD τ) ↦[downCopy.view.set]{fullShare} downCopy.view.rep wd)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (experts.view.loc (c : Thread nD τ) ↦{fullShare.right} T0)
              ∗ (used.view.loc (c : Thread nD τ) ↦{fullShare.right} T1)
              ∗ owns (c : Thread nD τ) arg8 fullShare (tiles (rows x0 wu x2 wd x4))
              ∗ owns (c : Thread nD τ) upCopy fullShare (wu)
              ∗ owns (c : Thread nD τ) downCopy fullShare (wd)) -∗ K ⟨⟩))
      ⊢ wp frame (wpE (defs₀ (F := F)) Variants.none c none) Set.univ (cc0_moe_experts i experts (Memref.isWhole_whole _) used (Memref.isWhole_whole _) arg3 harg3 arg4 harg4 arg5 harg5 arg6 harg6 arg7 harg7 arg8 harg8 upCopy (Memref.isWhole_whole _) downCopy (Memref.isWhole_whole _)) K := by
  unfold owns
  rw [cc0_moe_experts_eq_skeleton]; unfold cc0_moe_experts_skel
  rw [k0_part1_eq_skeleton, k0_part2_eq_skeleton]; unfold k0_part1_skel k0_part2_skel
  iintro ⟨H0, H1, H2, H3, H4, HT0, HT1, ⟨%d5, %f5, -, HO5⟩, HS0, HS1, Hk⟩
  have hS0 : upCopy.IsWhole := Memref.isWhole_whole _
  have hS1 : downCopy.IsWhole := Memref.isWhole_whole _
  have hT0 : experts.IsWhole := Memref.isWhole_whole _
  have hT1 : used.IsWhole := Memref.isWhole_whole _
  sl_exec! (disch := first | (guard_target = k0_cond1 _ _ = _; exact h1) | (guard_target = ¬(Scalar.cmpi _ _ _ = _); exact hc1) | (guard_target = ¬(k0_cond3 _ _ = _); exact h3))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap
    · iexact HO5
    · ipureintro
      rw [View.readAt_rep_full upCopy.view, View.readAt_rep_full downCopy.view]
      exact (read_tiles _ _ _).trans (congrArg tiles (rows_loads arg3.view arg5.view arg7.view x0 wu x2 wd x4))
  isplitl [HS0]
  · iexists _; isplitr; swap
    · iexact HS0
    · ipureintro; exact View.read_rep _ _
  iexists _; isplitr; swap
  · iexact HS1
  · ipureintro; exact View.read_rep _ _

end Cert.Moe

end
-- ==== Proof.MoeLoad.lean ====
/- The experts' kernel at a point that loads its expert's weights. -/
module

public import proofs.«01_k».proof.Proof.MoeTile

@[expose] public section

set_option maxRecDepth 16384
set_option Elab.async false

noncomputable section

namespace Cert.Moe

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- A used point that loads its expert's weights. -/
theorem run_load (c : Dev nD) (i : grid0.Coords) (arg3 : Memref sig .tc .vmem S2048x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S2048x128 .f32) (harg8 : arg8.IsWhole)
    (T0 : experts.view.ty.Contents (Elt F)) (T1 : used.view.ty.Contents (Elt F))
    (x0 : S2048x128.Idx → Elt F .f32) (x1 : S1x1x1024x2048.Idx → Elt F .f32) (x2 : S1x1x1x2048.Idx → Elt F .f32) (x3 : S1x1x1024x1024.Idx → Elt F .f32) (x4 : S1x1x1x1024.Idx → Elt F .f32)
    (h1 : k0_cond1 i (usedWord T1) = 1#1) (hc1 : loads i T0 = 1#1) (h3 : ¬ (k0_cond3 i (usedWord T1) = 1#1)) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (experts.view.loc (c : Thread nD τ) ↦{fullShare.right} T0)
          ∗ (used.view.loc (c : Thread nD τ) ↦{fullShare.right} T1)
          ∗ (∃ d, owns (c : Thread nD τ) arg8 fullShare d)
          ∗ (∃ d, owns (c : Thread nD τ) upCopy fullShare d)
          ∗ (∃ d, owns (c : Thread nD τ) downCopy fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (experts.view.loc (c : Thread nD τ) ↦{fullShare.right} T0)
              ∗ (used.view.loc (c : Thread nD τ) ↦{fullShare.right} T1)
              ∗ owns (c : Thread nD τ) arg8 fullShare (tiles (rows x0 (k0_pay7 x1) x2 (k0_pay8 x3) x4))
              ∗ owns (c : Thread nD τ) upCopy fullShare (k0_pay7 x1)
              ∗ owns (c : Thread nD τ) downCopy fullShare (k0_pay8 x3)) -∗ K ⟨⟩))
      ⊢ wp frame (wpE (defs₀ (F := F)) Variants.none c none) Set.univ (cc0_moe_experts i experts (Memref.isWhole_whole _) used (Memref.isWhole_whole _) arg3 harg3 arg4 harg4 arg5 harg5 arg6 harg6 arg7 harg7 arg8 harg8 upCopy (Memref.isWhole_whole _) downCopy (Memref.isWhole_whole _)) K := by
  unfold owns
  rw [cc0_moe_experts_eq_skeleton]; unfold cc0_moe_experts_skel
  rw [k0_part1_eq_skeleton, k0_part2_eq_skeleton]; unfold k0_part1_skel k0_part2_skel
  iintro ⟨H0, H1, H2, H3, H4, HT0, HT1, ⟨%d5, %f5, -, HO5⟩, ⟨%d6, %f6, -, HS0⟩, ⟨%d7, %f7, -, HS1⟩, Hk⟩
  have hS0 : upCopy.IsWhole := Memref.isWhole_whole _
  have hS1 : downCopy.IsWhole := Memref.isWhole_whole _
  have hT0 : experts.IsWhole := Memref.isWhole_whole _
  have hT1 : used.IsWhole := Memref.isWhole_whole _
  sl_exec! (disch := first | (guard_target = k0_cond1 _ _ = _; exact h1) | (guard_target = Scalar.cmpi _ _ _ = _; exact hc1) | (guard_target = ¬(k0_cond3 _ _ = _); exact h3))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap
    · iexact HO5
    · ipureintro
      have eu : run_load.sl.v37 c arg4 x1 = k0_pay7 x1 := by
        unfold run_load.sl.v37 run_load.sl.HS0_1
        rw [View.readCov_full, View.readAt_rep_full]
      have ed : run_load.sl.v65 c arg6 x3 = k0_pay8 x3 := by
        unfold run_load.sl.v65 run_load.sl.HS1_1
        rw [View.readCov_full, View.readAt_rep_full]
      rw [eu, ed]
      exact (read_tiles _ _ _).trans (congrArg tiles (rows_loads arg3.view arg5.view arg7.view x0 (k0_pay7 x1) x2 (k0_pay8 x3) x4))
  isplitl [HS0]
  · iexists _; isplitr; swap
    · iexact HS0
    · ipureintro
      unfold run_load.sl.HS0_1
      rw [View.readAt_rep_full arg4.view]
      exact View.read_writes_full _ _ _ _ _
  iexists _; isplitr; swap
  · iexact HS1
  · ipureintro
    unfold run_load.sl.HS1_1
    rw [View.readAt_rep_full arg6.view]
    exact View.read_writes_full _ _ _ _ _

end Cert.Moe

end
-- ==== Proof.MoeSkip.lean ====
/- The experts' kernel at a point past the used blocks. -/
module

public import proofs.«01_k».proof.Proof.MoeTile

@[expose] public section

set_option maxRecDepth 16384
set_option Elab.async false

noncomputable section

namespace Cert.Moe

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- A point past the used blocks: zeros. -/
theorem run_skip (c : Dev nD) (i : grid0.Coords) (arg3 : Memref sig .tc .vmem S2048x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S2048x128 .f32) (harg8 : arg8.IsWhole)
    (T0 : experts.view.ty.Contents (Elt F)) (T1 : used.view.ty.Contents (Elt F))
    (x0 : S2048x128.Idx → Elt F .f32) (x1 : S1x1x1024x2048.Idx → Elt F .f32) (x2 : S1x1x1x2048.Idx → Elt F .f32) (x3 : S1x1x1024x1024.Idx → Elt F .f32) (x4 : S1x1x1x1024.Idx → Elt F .f32)
    (wu : S1024x2048.Idx → Elt F .bf16) (wd : S1024x1024.Idx → Elt F .bf16)
    (h1 : ¬ (k0_cond1 i (usedWord T1) = 1#1)) (h3 : k0_cond3 i (usedWord T1) = 1#1) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (experts.view.loc (c : Thread nD τ) ↦{fullShare.right} T0)
          ∗ (used.view.loc (c : Thread nD τ) ↦{fullShare.right} T1)
          ∗ (∃ d, owns (c : Thread nD τ) arg8 fullShare d)
          ∗ (upCopy.view.loc (c : Thread nD τ) ↦[upCopy.view.set]{fullShare} upCopy.view.rep wu)
          ∗ (downCopy.view.loc (c : Thread nD τ) ↦[downCopy.view.set]{fullShare} downCopy.view.rep wd)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (experts.view.loc (c : Thread nD τ) ↦{fullShare.right} T0)
              ∗ (used.view.loc (c : Thread nD τ) ↦{fullShare.right} T1)
              ∗ owns (c : Thread nD τ) arg8 fullShare (k0_pay6)
              ∗ owns (c : Thread nD τ) upCopy fullShare (wu)
              ∗ owns (c : Thread nD τ) downCopy fullShare (wd)) -∗ K ⟨⟩))
      ⊢ wp frame (wpE (defs₀ (F := F)) Variants.none c none) Set.univ (cc0_moe_experts i experts (Memref.isWhole_whole _) used (Memref.isWhole_whole _) arg3 harg3 arg4 harg4 arg5 harg5 arg6 harg6 arg7 harg7 arg8 harg8 upCopy (Memref.isWhole_whole _) downCopy (Memref.isWhole_whole _)) K := by
  unfold owns
  rw [cc0_moe_experts_eq_skeleton]; unfold cc0_moe_experts_skel
  rw [k0_part1_eq_skeleton, k0_part2_eq_skeleton]; unfold k0_part1_skel k0_part2_skel
  iintro ⟨H0, H1, H2, H3, H4, HT0, HT1, ⟨%d5, %f5, -, HO5⟩, HS0, HS1, Hk⟩
  have hS0 : upCopy.IsWhole := Memref.isWhole_whole _
  have hS1 : downCopy.IsWhole := Memref.isWhole_whole _
  have hT0 : experts.IsWhole := Memref.isWhole_whole _
  have hT1 : used.IsWhole := Memref.isWhole_whole _
  sl_exec! (disch := first | (guard_target = ¬(k0_cond1 _ _ = _); exact h1) | (guard_target = k0_cond3 _ _ = _; exact h3))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap
    · iexact HO5
    · ipureintro; exact View.read_writes_full _ _ _ _ _
  isplitl [HS0]
  · iexists _; isplitr; swap
    · iexact HS0
    · ipureintro; exact View.read_rep _ _
  iexists _; isplitr; swap
  · iexact HS1
  · ipureintro; exact View.read_rep _ _

end Cert.Moe

end
-- ==== Proof.MoePoint.lean ====
/- The experts' pipeline at tables in range: its body at every point, and its run. -/
module

public import proofs.«01_k».proof.Proof.MoeBlocks
public import proofs.«01_k».proof.Proof.MoeKeep
public import proofs.«01_k».proof.Proof.MoeLoad
public import proofs.«01_k».proof.Proof.MoeSkip

@[expose] public section

set_option maxRecDepth 16384
set_option Elab.async false

noncomputable section

namespace Cert.Moe

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable {pf : pre0.Contents (Elt F)} (hg : Good pf)
variable (V : (c : Dev nD) → (b : Ref sig .tc) → Buf (Elt F) ((c.tc : Thread nD τ).loc b))

/-- What point `t` leaves in the output block: its expert's rows, or zeros past the blocks in use. -/
def left (c : Dev nD) (t : Fin (cfgA hg).N) : S2048x128.Idx → Elt F .f32 :=
  if t.val < count pf then tiles (rows (iblk hg V c 0 t) (k0_pay7 (iblk hg V c 1 t)) (iblk hg V c 2 t) (k0_pay8 (iblk hg V c 3 t)) (iblk hg V c 4 t))
  else k0_pay6

/-- Before point `t`: the scratches hold the weights of the point before where that one is in use; the body's halves of
    the tables. -/
def Phi (c : Dev nD) (t : Fin ((cfgA hg).N + 1)) : sProp 𝕄 :=
  iprop(∃ wu : S1024x2048.Idx → Elt F .bf16, ∃ wd : S1024x1024.Idx → Elt F .bf16,
    ⌜∀ u : Fin (cfgA hg).N, u.val + 1 = t.val → u.val < count pf → wu = k0_pay7 (iblk hg V c 1 u) ∧ wd = k0_pay8 (iblk hg V c 3 u)⌝
    ∗ owns (c : Thread nD τ) upCopy fullShare wu ∗ owns (c : Thread nD τ) downCopy fullShare wd
    ∗ (experts.view.loc (c : Thread nD τ) ↦{fullShare.right} pf 0) ∗ (used.view.loc (c : Thread nD τ) ↦{fullShare.right} pf 1)
    ∗ ∃ r, prngReg c r)

def dats (_ : Fin 1) (c : Dev nD) : Dat τ (Elt F) Unit ℕ (UR sig nD τ) ℕ (cfgA hg) c where
  A w := V c (Pipeline.arrRef spec0 w)
  after w t := match w with
    | ⟨0, _⟩ => iblk hg V c (0 : Fin 6) t
    | ⟨1, _⟩ => iblk hg V c (1 : Fin 6) t
    | ⟨2, _⟩ => iblk hg V c (2 : Fin 6) t
    | ⟨3, _⟩ => iblk hg V c (3 : Fin 6) t
    | ⟨4, _⟩ => iblk hg V c (4 : Fin 6) t
    | ⟨5, _⟩ => left hg V c t
  Φ t := Phi hg V c t
  q _ := fullShare
  owed _ := 0

theorem after0 (c : Dev nD) (t : Fin (cfgA hg).N) : (dats hg V 0 c).after (0 : Fin 6) t = iblk hg V c (0 : Fin 6) t := rfl
theorem after1 (c : Dev nD) (t : Fin (cfgA hg).N) : (dats hg V 0 c).after (1 : Fin 6) t = iblk hg V c (1 : Fin 6) t := rfl
theorem after2 (c : Dev nD) (t : Fin (cfgA hg).N) : (dats hg V 0 c).after (2 : Fin 6) t = iblk hg V c (2 : Fin 6) t := rfl
theorem after3 (c : Dev nD) (t : Fin (cfgA hg).N) : (dats hg V 0 c).after (3 : Fin 6) t = iblk hg V c (3 : Fin 6) t := rfl
theorem after4 (c : Dev nD) (t : Fin (cfgA hg).N) : (dats hg V 0 c).after (4 : Fin 6) t = iblk hg V c (4 : Fin 6) t := rfl
theorem after5 (c : Dev nD) (t : Fin (cfgA hg).N) : (dats hg V 0 c).after (5 : Fin 6) t = left hg V c t := rfl

theorem before0 (c : Dev nD) (t : Fin (cfgA hg).N) (d) : (dats hg V 0 c).before (0 : Fin 6) t d = iblk hg V c (0 : Fin 6) t :=
  ((dats hg V 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgA hg).N) (d) : (dats hg V 0 c).before (1 : Fin 6) t d = iblk hg V c (1 : Fin 6) t :=
  ((dats hg V 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgA hg).N) (d) : (dats hg V 0 c).before (2 : Fin 6) t d = iblk hg V c (2 : Fin 6) t :=
  ((dats hg V 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgA hg).N) (d) : (dats hg V 0 c).before (3 : Fin 6) t d = iblk hg V c (3 : Fin 6) t :=
  ((dats hg V 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgA hg).N) (d) : (dats hg V 0 c).before (4 : Fin 6) t d = iblk hg V c (4 : Fin 6) t :=
  ((dats hg V 0 c).before_in_eq_fetched (4 : Fin 6) rfl (fun _ => rfl) (fun _ _ _ => rfl) (fun t => by rw [after4]; unfold Dat.blockOf iblk; rfl) t d).trans
    (by unfold Dat.fetched Dat.blockOf iblk; rfl)

theorem live5 (t : Fin (cfgA hg).N) : (cfgA hg).idle (5 : Fin 6) ((cfgA hg).grid.coords t) = false := not_idle hg _

abbrev bodyAt (t : Fin (cfgA hg).N) : Prog (TpuEff nD τ sig (Elt F) Λ₀ .tc) PUnit :=
  cc0_moe_experts (crd hg t) experts (Memref.isWhole_whole _) used (Memref.isWhole_whole _) (ms0 hg t) (hs0 hg t) (ms1 hg t) (hs1 hg t) (ms2 hg t) (hs2 hg t) (ms3 hg t) (hs3 hg t) (ms4 hg t) (hs4 hg t) (ms5 hg t) (hs5 hg t) upCopy (Memref.isWhole_whole _) downCopy (Memref.isWhole_whole _)

set_option maxHeartbeats 4000000 in
/-- The body at point `t`: it loads the weights, keeps those of the point before, or is past the blocks in use. -/
theorem sound_body (c : Dev nD) (t : Fin (cfgA hg).N) :
    iprop((dats hg V 0 c).Φ t.castSucc ∗ (dats hg V 0 c).owesAt () t.castSucc
        ∗ (∃ d, owns (c : Thread nD τ) (ms0 hg t) fullShare ((dats hg V 0 c).before (0 : Fin 6) t d))
        ∗ (∃ d, owns (c : Thread nD τ) (ms1 hg t) fullShare ((dats hg V 0 c).before (1 : Fin 6) t d))
        ∗ (∃ d, owns (c : Thread nD τ) (ms2 hg t) fullShare ((dats hg V 0 c).before (2 : Fin 6) t d))
        ∗ (∃ d, owns (c : Thread nD τ) (ms3 hg t) fullShare ((dats hg V 0 c).before (3 : Fin 6) t d))
        ∗ (∃ d, owns (c : Thread nD τ) (ms4 hg t) fullShare ((dats hg V 0 c).before (4 : Fin 6) t d))
        ∗ (∃ d, owns (c : Thread nD τ) (ms5 hg t) fullShare ((dats hg V 0 c).before (5 : Fin 6) t d)))
      ⊢ wp frame (wpE (defs₀ (F := F)) Variants.none c none) Set.univ (bodyAt hg t) fun _ =>
          iprop((dats hg V 0 c).Φ t.succ ∗ (dats hg V 0 c).owesAt () t.succ
            ∗ bigSep Finset.univ fun w : Fin (cfgA hg).W =>
                match (cfgA hg).idle w ((cfgA hg).grid.coords t) with
                | true =>
                  match ((cfgA hg).win w).flush t with
                  | false => iprop(∃ d, owns (c : Thread nD τ) (((cfgA hg).win w).stage ((cfgA hg).slots t w)) fullShare ((dats hg V 0 c).before w t d))
                  | true => owns (c : Thread nD τ) (((cfgA hg).win w).stage ((cfgA hg).slots t w)) fullShare ((dats hg V 0 c).after w t)
                | false => owns (c : Thread nD τ) (((cfgA hg).win w).stage ((cfgA hg).slots t w)) fullShare ((dats hg V 0 c).after w t)) := by
  rw [bigSep_W0]
  rewrite [live5 hg t]
  simp only [before0, before1, before2, before3, before4, after0, after1, after2, after3, after4, after5]
  rewrite [show (dats hg V 0 c).Φ t.succ = Phi hg V c t.succ from rfl, show (dats hg V 0 c).Φ t.castSucc = Phi hg V c t.castSucc from rfl,
    show (dats hg V 0 c).owesAt () t.succ = (dats hg V 0 c).owesAt () t.castSucc from rfl]
  unfold Phi
  have hn : BitVec.toNat (usedWord (F := F) (pf 1)) = count pf := congrArg BitVec.toNat (usedWord_eq (F := F) (pf 1))
  have hle : BitVec.toNat (usedWord (F := F) (pf 1)) < 2147483648 := hn.trans_lt hg.lt
  have hc : (crd hg t 0).val = t.val := coord t
  iintro ⟨⟨%wu, %wd, %hw, HS0, HS1, HT0, HT1, HR⟩, Ho, ⟨%d0, H0⟩, ⟨%d1, H1⟩, ⟨%d2, H2⟩, ⟨%d3, H3⟩, ⟨%d4, H4⟩, ⟨%d5, H5⟩⟩
  by_cases hu : t.val < count pf
  · have h1 : k0_cond1 (crd hg t) (usedWord (F := F) (pf 1)) = 1#1 := (cond1_iff _ hle).mpr (by rw [hn, hc]; exact hu)
    have h3 : ¬ (k0_cond3 (crd hg t) (usedWord (F := F) (pf 1)) = 1#1) := fun h => by
      have := (cond3_iff _ hle).mp h
      rw [hn, hc] at this; omega
    have hl : left hg V c t = tiles (rows (iblk hg V c 0 t) (k0_pay7 (iblk hg V c 1 t)) (iblk hg V c 2 t) (k0_pay8 (iblk hg V c 3 t)) (iblk hg V c 4 t)) := if_pos hu
    rewrite [hl]
    by_cases hld : loads (F := F) (crd hg t) (pf 0) = 1#1
    · iapply (run_load c (crd hg t) (ms0 hg t) (hs0 hg t) (ms1 hg t) (hs1 hg t) (ms2 hg t) (hs2 hg t) (ms3 hg t) (hs3 hg t) (ms4 hg t) (hs4 hg t) (ms5 hg t) (hs5 hg t) (pf 0) (pf 1) (iblk hg V c 0 t) (iblk hg V c 1 t) (iblk hg V c 2 t) (iblk hg V c 3 t) (iblk hg V c 4 t) h1 hld h3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexists _; iexact HS0
      isplitl [HS1]; · iexists _; iexact HS1
      iintro ⟨H0, H1, H2, H3, H4, HT0, HT1, H5, HS0, HS1⟩
      isplitl [HS0 HS1 HT0 HT1 HR]
      · iexists (k0_pay7 (iblk hg V c 1 t)); iexists (k0_pay8 (iblk hg V c 3 t))
        isplitr
        · ipureintro; intro u hu1 _
          obtain rfl : u = t := Fin.ext (by simpa using hu1)
          exact ⟨rfl, rfl⟩
        isplitl [HS0]; · iexact HS0
        isplitl [HS1]; · iexact HS1
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexact H5
    · have hnl := fun h => hld ((loads_iff _ _).mpr h)
      have h0 : t.val ≠ 0 := fun h => hnl (.inl (hc.trans h))
      have hs : expert pf (pos hg t) = expert pf (pos hg ⟨t.val - 1, by omega⟩) := by
        have e := not_not.mp fun h => hnl (.inr h)
        have e2 := congrArg BitVec.toNat e
        rw [crd_pos] at e2
        exact e2
      have hwt := hw ⟨t.val - 1, by omega⟩ (by show t.val - 1 + 1 = t.val; omega) (by show t.val - 1 < count pf; omega)
      have e1 : wu = k0_pay7 (iblk hg V c 1 t) := hwt.1.trans (congrArg k0_pay7 (up_same hg V c t _ hs).symm)
      have e3 : wd = k0_pay8 (iblk hg V c 3 t) := hwt.2.trans (congrArg k0_pay8 (down_same hg V c t _ hs).symm)
      rewrite [← e1, ← e3]
      iapply (run_keep c (crd hg t) (ms0 hg t) (hs0 hg t) (ms1 hg t) (hs1 hg t) (ms2 hg t) (hs2 hg t) (ms3 hg t) (hs3 hg t) (ms4 hg t) (hs4 hg t) (ms5 hg t) (hs5 hg t) (pf 0) (pf 1) (iblk hg V c 0 t) (iblk hg V c 1 t) (iblk hg V c 2 t) (iblk hg V c 3 t) (iblk hg V c 4 t) wu wd h1 hld h3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iapply rep_of_owns; iexact HS0
      isplitl [HS1]; · iapply rep_of_owns; iexact HS1
      iintro ⟨H0, H1, H2, H3, H4, HT0, HT1, H5, HS0, HS1⟩
      isplitl [HS0 HS1 HT0 HT1 HR]
      · iexists wu; iexists wd
        isplitr
        · ipureintro; intro u hu1 _
          obtain rfl : u = t := Fin.ext (by simpa using hu1)
          exact ⟨e1, e3⟩
        isplitl [HS0]; · iexact HS0
        isplitl [HS1]; · iexact HS1
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexact H5
  · have h1 : ¬ (k0_cond1 (crd hg t) (usedWord (F := F) (pf 1)) = 1#1) := fun h => by
      have := (cond1_iff _ hle).mp h
      rw [hn, hc] at this; omega
    have h3 : k0_cond3 (crd hg t) (usedWord (F := F) (pf 1)) = 1#1 := (cond3_iff _ hle).mpr (by rw [hn, hc]; omega)
    have hl : left hg V c t = k0_pay6 := if_neg hu
    rewrite [hl]
    · iapply (run_skip c (crd hg t) (ms0 hg t) (hs0 hg t) (ms1 hg t) (hs1 hg t) (ms2 hg t) (hs2 hg t) (ms3 hg t) (hs3 hg t) (ms4 hg t) (hs4 hg t) (ms5 hg t) (hs5 hg t) (pf 0) (pf 1) (iblk hg V c 0 t) (iblk hg V c 1 t) (iblk hg V c 2 t) (iblk hg V c 3 t) (iblk hg V c 4 t) wu wd h1 h3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iapply rep_of_owns; iexact HS0
      isplitl [HS1]; · iapply rep_of_owns; iexact HS1
      iintro ⟨H0, H1, H2, H3, H4, HT0, HT1, H5, HS0, HS1⟩
      isplitl [HS0 HS1 HT0 HT1 HR]
      · iexists wu; iexists wd
        isplitr
        · ipureintro; intro u hu1 hu2
          obtain rfl : u = t := Fin.ext (by simpa using hu1)
          exact absurd hu2 hu
        isplitl [HS0]; · iexact HS0
        isplitl [HS1]; · iexact HS1
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexact H5

theorem body_obligation (c : Dev nD) : BodyObligation (dats hg V 0 c) (defs₀ (F := F)) Variants.none () Set.univ := fun t => by
  rw [bigSep_W0]
  exact sound_body hg V c t

theorem share_eq (c : Dev nD) (w : Fin (cfgA hg).W) : (dats hg V 0 c).share w = fullShare := by unfold Dat.share; split <;> rfl

theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem upHeld (c : Dev nD) (w : S1024x2048.Idx → Elt F .bf16) :
    ((owns (c : Thread nD τ) upCopy fullShare w : sProp 𝕄) ⊢ ((c : Thread nD τ).loc cc0_scratch0) ↦{fullShare} w)
      ∧ ((((c : Thread nD τ).loc cc0_scratch0) ↦{fullShare} w : sProp 𝕄) ⊢ owns (c : Thread nD τ) upCopy fullShare w) := by
  rw [owns_whole]; exact ⟨entails_refl _, entails_refl _⟩

theorem downHeld (c : Dev nD) (w : S1024x1024.Idx → Elt F .bf16) :
    ((owns (c : Thread nD τ) downCopy fullShare w : sProp 𝕄) ⊢ ((c : Thread nD τ).loc cc0_scratch1) ↦{fullShare} w)
      ∧ ((((c : Thread nD τ).loc cc0_scratch1) ↦{fullShare} w : sProp 𝕄) ⊢ owns (c : Thread nD τ) downCopy fullShare w) := by
  rw [owns_whole]; exact ⟨entails_refl _, entails_refl _⟩

theorem phi_intro (c : Dev nD) : iprop(Pipeline.ΦA spec0 c ∗ Pipeline.ΦT pre0 pf c) ⊢ (dats hg V 0 c).Φ 0 := by
  rw [show (dats hg V 0 c).Φ 0 = Phi hg V c 0 from rfl]
  unfold Pipeline.ΦA Pipeline.ΦT Phi
  rw [tables_eq, scopedRest0_eq]
  iintro ⟨⟨⟨⟨%a0, HS0⟩, ⟨%a1, HS1⟩⟩, HR⟩, HT0, HT1⟩
  iexists a0; iexists a1
  isplitr
  · ipureintro; intro u h; exact absurd h (by simp)
  rw [owns_whole, owns_whole]
  isplitl [HS0]; · iexact HS0
  isplitl [HS1]; · iexact HS1
  isplitl [HT0]; · iexact HT0
  isplitl [HT1]; · iexact HT1
  iexact HR

theorem phi_exit (c : Dev nD) : (dats hg V 0 c).Φ (Fin.last (cfgA hg).N) ⊢ Pipeline.ΦA spec0 c := by
  rw [show (dats hg V 0 c).Φ (Fin.last (cfgA hg).N) = Phi hg V c (Fin.last _) from rfl]
  unfold Pipeline.ΦA Phi
  rw [scopedRest0_eq]
  iintro ⟨%wu, %wd, -, HS0, HS1, -, -, HR⟩
  isplitl [HS0 HS1]
  · isplitl [HS0]
    · iexists wu; iapply (upHeld c wu).1; iexact HS0
    iexists wd; iapply (downHeld c wd).1; iexact HS1
  iexact HR

end Cert.Moe

end
-- ==== Proof.MoeRun.lean ====
/- The experts' program from tables in range: it ends, with its arguments unchanged and its result at the computed
   contents. -/
module

public import proofs.«01_k».proof.Defs
public import proofs.«01_k».proof.Proof.MoePoint
public import Idealize.ShloMosaic.Lib.StableHlo.RunRead

@[expose] public section

set_option maxRecDepth 16384
set_option Elab.async false

noncomputable section

namespace Cert.Moe

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

theorem one_entry (i : S1.Idx) : i = entry₁ := by
  refine funext fun a => Fin.ext ?_
  have := (i a).isLt
  match a with
  | ⟨0, _⟩ => show (i 0).val = 0; have : (i 0).val < 1 := (i 0).isLt; omega

/-- The precondition's words: every expert of the table below 32, the count of blocks at least 1. -/
theorem tables_range [Cert.Pre_expert_tables.Facts] (t0 : IVec S576 32) (t1 : IVec S1 32) (x2 : FVec F S147456x1024 .f32) (x3 : FVec F S4x32x1024x2048 .f32)
    (x4 : FVec F S4x32x2048 .f32) (x5 : FVec F S4x32x1024x1024 .f32) (x6 : FVec F S4x32x1024 .f32)
    (h : Cert.Pre_expert_tables.fn (F := F) t0 t1 x2 x3 x4 x5 x6 = fun _ => 1#1) (k : Fin 576) :
    (t0 (entry k)).toNat < 32 ∧ 1 ≤ (t1 entry₁).toNat ∧ (t1 entry₁).toNat < 2147483648 := by
  have e := congrFun h (entry k)
  have one : ∀ a b : BitVec 1, a &&& b = 1#1 → a = 1#1 ∧ b = 1#1 := by decide
  have ob : ∀ b : Bool, BitVec.ofBool b = 1#1 → b = true := by decide
  obtain ⟨e, e3⟩ := one _ _ e
  obtain ⟨e1, e2⟩ := one _ _ e
  have e1 : (0#32).sle (t0 (entry k)) = true := (ob _ e1)
  have e2 : (t0 (entry k)).slt 32#32 = true := (ob _ e2)
  have e3 : (1#32).sle (t1 entry₁) = true := by
    have e3' := ob _ e3
    exact (congrArg (fun i => (1#32).sle (t1 i)) (one_entry _)).symm.trans e3'
  generalize t0 (entry k) = a at e1 e2 ⊢
  generalize t1 entry₁ = b at e3 ⊢
  rw [BitVec.sle_iff_toInt_le] at e1 e3
  rw [BitVec.slt_iff_toInt_lt] at e2
  have ha := BitVec.toInt_eq_toNat_cond a
  have hb := BitVec.toInt_eq_toNat_cond b
  have c0 : (0#32 : BitVec 32).toInt = 0 := by decide
  have c1 : (1#32 : BitVec 32).toInt = 1 := by decide
  have c32 : (32#32 : BitVec 32).toInt = 32 := by decide
  have la := a.isLt
  have lb := b.isLt
  split at ha <;> split at hb <;> omega

variable (m : (ℓ : Loc nD τ sig) → Buf (Elt F) ℓ) (ρ : Dev nD → PrngReg)

/-- Contents of the arrays when the pipeline starts. -/
def V (c : Dev nD) (b : Ref sig .tc) : Buf (Elt F) ((c : Thread nD τ).loc b) := StableHlo.after hostOps0 (fun b => m (c, b)) b

theorem V_arg0 (c : Dev nD) : V m c main_arg0 = m ((c : Thread nD τ).loc main_arg0) := by
  show StableHlo.after hostOps0 (fun b => m (c, b)) main_arg0 = _
  after_reads_simp
theorem V_arg1 (c : Dev nD) : V m c main_arg1 = m ((c : Thread nD τ).loc main_arg1) := by
  show StableHlo.after hostOps0 (fun b => m (c, b)) main_arg1 = _
  after_reads_simp
theorem V_arg2 (c : Dev nD) : V m c main_arg2 = m ((c : Thread nD τ).loc main_arg2) := by
  show StableHlo.after hostOps0 (fun b => m (c, b)) main_arg2 = _
  after_reads_simp
theorem V_arg3 (c : Dev nD) : V m c main_arg3 = m ((c : Thread nD τ).loc main_arg3) := by
  show StableHlo.after hostOps0 (fun b => m (c, b)) main_arg3 = _
  after_reads_simp
theorem V_arg4 (c : Dev nD) : V m c main_arg4 = m ((c : Thread nD τ).loc main_arg4) := by
  show StableHlo.after hostOps0 (fun b => m (c, b)) main_arg4 = _
  after_reads_simp
theorem V_arg5 (c : Dev nD) : V m c main_arg5 = m ((c : Thread nD τ).loc main_arg5) := by
  show StableHlo.after hostOps0 (fun b => m (c, b)) main_arg5 = _
  after_reads_simp
theorem V_arg6 (c : Dev nD) : V m c main_arg6 = m ((c : Thread nD τ).loc main_arg6) := by
  show StableHlo.after hostOps0 (fun b => m (c, b)) main_arg6 = _
  after_reads_simp

/-- The tables of the launch memory. -/
def tables : pre0.Contents (Elt F) := fun k => m (((0 : Dev nD) : Thread nD τ).loc (pre0.ref k))

theorem tables_held (c : Dev nD) (k : Fin 2) : V m c (pre0.ref k) = tables m k := by
  obtain rfl : c = 0 := Subsingleton.elim (α := Fin 1) c 0
  match k with
  | ⟨0, _⟩ => exact V_arg0 m 0
  | ⟨1, _⟩ => exact V_arg1 m 0

theorem share_full (hg : Good (tables m)) (c : Dev nD) (w : Fin (cfgA hg).W) : (dats hg (V m) 0 c).share w = fullShare := share_eq hg (V m) c w

set_option backward.isDefEq.respectTransparency.types false in
set_option maxHeartbeats 4000000 in
/-- The run: every array at its computed contents, every other buffer as when the pipeline started, the counters at zero. -/
theorem run (hg : Good (tables m)) :
    θ_run (defs (F := F)) (onTc (τ := τ) (main (F := F))) ⟨m, fun _ => 0, ρ⟩ (fun r =>
      Pipeline.FramePost (pcs hg) (dats hg (V m)) (0 : Fin 1) (V m) r ∧ r.2.sem = fun _ => 0) :=
  Pipeline.θ_run_frameP_track (pcfgs (F := F)) (fun _ => adm hg) (dats hg (V m)) (0 : Fin 1) launch0 defs₀ Variants.none m ρ main
    (hbody := fun c => (body_obligation hg (V m) c).loose)
    (hshare := fun c w => share_full m hg c w) (howed := fun _ _ => rfl) (V := V m)
    (hmain := Pipeline.hmainP_prefix pcfgs (0 : Fin 1) defs₀ Variants.none m main hostOps0 hostOps0_sub ⟨rfl, rfl, rfl⟩ main_chain)
    (hA := fun _ _ => rfl) (hpf := tables_held m)
    (hin := phi_intro hg (V m)) (hout := phi_exit hg (V m))
    (Q' := fun r => Pipeline.FramePost (pcs hg) (dats hg (V m)) (0 : Fin 1) (V m) r ∧ r.2.sem = fun _ => 0)
    (hQ' := fun _ h => h)

/-- What the run leaves: the result at the pipeline's contents, the arguments unchanged. -/
theorem run_result (hg : Good (tables m)) :
    θ_run (defs (F := F)) (onTc (τ := τ) (main (F := F))) ⟨m, fun _ => 0, ρ⟩ (fun r =>
      (∀ c : Dev nD, r.2.mem ((c : Thread nD τ).loc main_v3) = (dats hg (V m) 0 c).arrAt (5 : Fin 6) (cfgA hg).N
        ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6)) ∧ r.2.sem = fun _ => 0) :=
  (θ_run defs _ _).mono (fun r h => ⟨fun c => ⟨(h.1 c).1 (5 : Fin 6),
    ((h.1 c).2 main_arg0 (show main_arg0 ∈ Pipeline.restRefs sig spec0 from by decide)).trans (V_arg0 m c), ((h.1 c).2 main_arg1 (show main_arg1 ∈ Pipeline.restRefs sig spec0 from by decide)).trans (V_arg1 m c),
    ((h.1 c).2 main_arg2 (show main_arg2 ∈ Pipeline.restRefs sig spec0 from by decide)).trans (V_arg2 m c),
    (((h.1 c).1 (1 : Fin 6)).trans ((dats hg (V m) 0 c).arrAt_in (1 : Fin 6) rfl _)).trans (V_arg3 m c),
    ((h.1 c).2 main_arg4 (show main_arg4 ∈ Pipeline.restRefs sig spec0 from by decide)).trans (V_arg4 m c),
    (((h.1 c).1 (3 : Fin 6)).trans ((dats hg (V m) 0 c).arrAt_in (3 : Fin 6) rfl _)).trans (V_arg5 m c),
    ((h.1 c).2 main_arg6 (show main_arg6 ∈ Pipeline.restRefs sig spec0 from by decide)).trans (V_arg6 m c)⟩, h.2⟩) (run m ρ hg)

end Cert.Moe

end
-- ==== Proof.MoeExpert.lean ====
/- One expert on one row: the textbook row, the sigmoid from its hyperbolic tangent, and the block's rows of the
   pipeline's body. -/
module

public import proofs.«01_k».proof.Proof.MoeTile
public import Idealize.ShloMosaic.Lib.Pointwise
public import Idealize.ShloMosaic.Lib.Pipeline.Value

@[expose] public section

set_option maxRecDepth 16384

noncomputable section

namespace Cert.Moe

open Cert.Kernel3Ideal Cert.Kernel3Ideal.Gen
open Idealize.ShloMosaic Idealize.ShloMosaic.TcCoe

/-- The gated linear unit of the row's `2048` entries `u`, at lane `f`. -/
def gated (u : Fin 2048 → EReal) (f : Fin 1024) : EReal :=
  min (u ⟨f.val, by omega⟩) (Ideal.ofBits .f32 0x40E00000#32)
    * Ideal.div (Ideal.ofBits .f32 0x3F800000#32) (Ideal.ofBits .f32 0x3F800000#32
        + Ideal.exp (-(Ideal.ofBits .f32 0x3FD9DB23#32 * min (u ⟨f.val, by omega⟩) (Ideal.ofBits .f32 0x40E00000#32))))
    * (min (Ideal.ofBits .f32 0x40E00000#32) (max (Ideal.ofBits .f32 0xC0E00000#32) (u ⟨1024 + f.val, by omega⟩)) + Ideal.ofBits .f32 0x3F800000#32)

/-- One expert's row `x`, at lane `d`. -/
def expertRow (x : Fin 1024 → EReal) (wu : Fin 1024 → Fin 2048 → EReal) (bu : Fin 2048 → EReal) (wd : Fin 1024 → Fin 1024 → EReal)
    (bd : Fin 1024 → EReal) (d : Fin 1024) : EReal :=
  (∑ f : Fin 1024, gated (fun j => (∑ k : Fin 1024, x k * wu k j) + bu j) f * wd f d) + bd d

theorem half_word : Ideal.ofBits .f32 0x3F000000#32 = ((1 / 2 : ℝ) : EReal) := by
  simp [Ideal.ofBits, Ideal.ieee, -EReal.coe_mul]; norm_num
theorem one_f32 : Ideal.ofBits .f32 0x3F800000#32 = (1 : EReal) := by
  simp [Ideal.ofBits, Ideal.ieee, -EReal.coe_mul]; norm_num

theorem half_tanh (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; congr 1; ring
  have e' : Real.exp (1 / 2 * r) = (Real.exp (-(1 / 2 * r)))⁻¹ := by rw [Real.exp_neg, inv_inv]
  rw [Real.tanh_eq_sinh_div_cosh, Real.sinh_eq, Real.cosh_eq, e, e']
  have hp := Real.exp_pos (-(1 / 2 * r))
  generalize Real.exp (-(1 / 2 * r)) = p at hp
  have h1 : p⁻¹ + p ≠ 0 := by positivity
  have h2 : 1 + p * p ≠ 0 := by positivity
  field_simp
  ring

/-- The sigmoid is half the hyperbolic tangent of half its argument, plus a half; at the infinities too. -/
theorem sigmoid_eq (y : EReal) :
    Ideal.ofBits .f32 0x3F000000#32 * Ideal.tanh (Ideal.ofBits .f32 0x3F000000#32 * y) + Ideal.ofBits .f32 0x3F000000#32
      = Ideal.div (Ideal.ofBits .f32 0x3F800000#32) (Ideal.ofBits .f32 0x3F800000#32 + Ideal.exp (-y)) := by
  rw [half_word, one_f32, show Ideal.div 1 (1 + Ideal.exp (-y)) = Ideal.logistic y from rfl]
  induction y using EReal.rec with
  | bot =>
    rw [EReal.coe_mul_bot_of_pos (by norm_num), Ideal.tanh_bot, Ideal.logistic_bot, show (-1 : EReal) = ((-1 : ℝ) : EReal) by rw [EReal.coe_neg, EReal.coe_one],
      ← EReal.coe_mul, ← EReal.coe_add]
    norm_num
  | top =>
    rw [EReal.coe_mul_top_of_pos (by norm_num), Ideal.tanh_top, Ideal.logistic_top, show (1 : EReal) = ((1 : ℝ) : EReal) by norm_cast,
      ← EReal.coe_mul, ← EReal.coe_add]
    norm_num
  | coe r => rw [← EReal.coe_mul, Ideal.tanh_coe, ← EReal.coe_mul, ← EReal.coe_add, Ideal.logistic_coe, half_tanh]

/-! The body's payloads, read at an index. -/

theorem copy_up (x : FVec Ideal S1x1x1024x2048 .f32) (k : Fin 1024) (j : Fin 2048) : (k0_pay7 x : FVec Ideal S1024x2048 .bf16) (ix2 k j) = x (ix4 0 0 k j) := by
  pointwise [k0_pay7]
theorem copy_down (x : FVec Ideal S1x1x1024x1024 .f32) (k j : Fin 1024) : (k0_pay8 x : FVec Ideal S1024x1024 .bf16) (ix2 k j) = x (ix4 0 0 k j) := by
  pointwise [k0_pay8]

/-- The eight slabs side by side are the block's rows. -/
theorem slabs_apply (x : S2048x128.Idx → EReal) (r : Fin 256) (k : Fin 1024) :
    concatenate S256x1024 1 (List.ofFn fun s : Fin 8 => (⟨S256x128, shapeCast S256x128 (slab (F := Ideal) x s) shapeCasts_S256x128_S256x128⟩ : (s : Shape) × (s.Idx → EReal)))
        concatenates_S256x128_S256x128_S256x128_S256x128_S256x128_S256x128_S256x128_S256x128_S256x1024_d1 (show S256x1024.Idx from ix2 r k)
      = x (ix2 (⟨8 * r.val + k.val / 128, by omega⟩ : Fin 2048) (⟨k.val % 128, by omega⟩ : Fin 128)) := by
  refine (concatenate_ofFn_apply (t := S256x1024) 1 (fun s : Fin 8 => shapeCast S256x128 (slab (F := Ideal) x s) shapeCasts_S256x128_S256x128) _ rfl 128 rfl (show S256x1024.Idx from ix2 r k)
    (⟨k.val / 128, by omega⟩ : Fin 8) rfl (show S256x128.Idx from ix2 r (⟨k.val % 128, by omega⟩ : Fin 128)) rfl ?_).trans ?_
  · intro b hb
    match b with
    | ⟨0, _⟩ => rfl
    | ⟨1, _⟩ => exact absurd rfl hb
  · rw [shapeCast_self]
    refine congrArg x (funext fun a => Fin.ext ?_)
    match a with
    | ⟨0, _⟩ => show k.val / 128 + 8 * r.val = 8 * r.val + k.val / 128; omega
    | ⟨1, _⟩ => rfl

theorem up_apply (x : S2048x128.Idx → EReal) (w : FVec Ideal S1024x2048 .bf16) (r : Fin 256) (j : Fin 2048) :
    (k0_pay9 (F := Ideal) (slab (F := Ideal) x 0) (slab (F := Ideal) x 1) (slab (F := Ideal) x 2) (slab (F := Ideal) x 3) (slab (F := Ideal) x 4) (slab (F := Ideal) x 5) (slab (F := Ideal) x 6) (slab (F := Ideal) x 7) w : FVec Ideal S256x2048 .f32) (ix2 r j)
      = ∑ k : Fin 1024, x (ix2 (⟨8 * r.val + k.val / 128, by omega⟩ : Fin 2048) (⟨k.val % 128, by omega⟩ : Fin 128)) * w (ix2 k j) := by
  refine Eq.trans ?_ (Finset.sum_congr rfl fun k _ => congrArg (· * w (ix2 k j)) (slabs_apply x r k))
  show (matmul dot_S256x1024_S1024x2048_S256x2048_1_0_0_1_n_n none (truncf .bf16
      (concatenate S256x1024 1 (List.ofFn fun s : Fin 8 => (⟨S256x128, shapeCast S256x128 (slab (F := Ideal) x s) shapeCasts_S256x128_S256x128⟩ : (s : Shape) × (s.Idx → EReal)))
        concatenates_S256x128_S256x128_S256x128_S256x128_S256x128_S256x128_S256x128_S256x128_S256x1024_d1 : FVec Ideal S256x1024 .f32) bitsLt_bf16_f32)
      w (constant (F := Ideal) S256x2048 .f32 0x00000000#32) : FVec Ideal S256x2048 .f32) (ix2 r j) = _
  generalize (concatenate S256x1024 1 (List.ofFn fun s : Fin 8 => (⟨S256x128, shapeCast S256x128 (slab (F := Ideal) x s) shapeCasts_S256x128_S256x128⟩ : (s : Shape) × (s.Idx → EReal)))
        concatenates_S256x128_S256x128_S256x128_S256x128_S256x128_S256x128_S256x128_S256x128_S256x1024_d1 : FVec Ideal S256x1024 .f32) = y
  pointwise

/-- The unit between the two products, from the row's entries and their biases. -/
def between (u : FVec Ideal S256x2048 .f32) (b : FVec Ideal S1x1x1x2048 .f32) (r : Fin 256) (f : Fin 1024) : EReal :=
  gated (fun j => u (ix2 r j) + b (ix4 0 0 0 j)) f

theorem down_apply (u : FVec Ideal S256x2048 .f32) (b : FVec Ideal S1x1x1x2048 .f32) (w : FVec Ideal S1024x1024 .bf16) (e : FVec Ideal S1x1x1x1024 .f32)
    (r : Fin 256) (d : Fin 1024) :
    (k0_pay10 u b w e : FVec Ideal S256x1024 .f32) (ix2 r d) = (∑ f : Fin 1024, between u b r f * w (ix2 f d)) + e (ix4 0 0 0 d) := by
  unfold between gated
  simp only [← sigmoid_eq]
  pointwise [k0_pay10]

theorem rows_apply (x0 : S2048x128.Idx → EReal) (x1 : FVec Ideal S1x1x1024x2048 .f32) (x2 : FVec Ideal S1x1x1x2048 .f32)
    (x3 : FVec Ideal S1x1x1024x1024 .f32) (x4 : FVec Ideal S1x1x1x1024 .f32) (r : Fin 256) (d : Fin 1024) :
    rows (F := Ideal) x0 (k0_pay7 (F := Ideal) x1) x2 (k0_pay8 (F := Ideal) x3) x4 (ix2 r d)
      = expertRow (fun k => x0 (ix2 (⟨8 * r.val + k.val / 128, by omega⟩ : Fin 2048) (⟨k.val % 128, by omega⟩ : Fin 128)))
          (fun k j => x1 (ix4 0 0 k j)) (fun j => x2 (ix4 0 0 0 j)) (fun k j => x3 (ix4 0 0 k j)) (fun j => x4 (ix4 0 0 0 j)) d := by
  refine (down_apply _ _ _ _ r d).trans ?_
  unfold between expertRow
  refine congrArg (· + _) (Finset.sum_congr rfl fun f _ => ?_)
  rw [copy_down]
  refine congrArg (· * _) (congrArg (gated · f) (funext fun j => ?_))
  refine congrArg (· + _) ((up_apply x0 _ r j).trans (Finset.sum_congr rfl fun k _ => ?_))
  rw [copy_up]

end Cert.Moe

end
-- ==== Proof.MoeReference.lean ====
/- The experts' reference read at an index: block by block, the row of its tile through the block's expert, and zero past
   the blocks in use. -/
module

public import proofs.«01_k».proof.Proof.MoeExpert
public import proofs.«01_k».proof.Proof.Gen.Reference3Ideal.Run
public import Idealize.ShloMosaic.Lib.Pointwise
public import Idealize.ShloMosaic.Lib.Routing.Ops

@[expose] public section

set_option maxRecDepth 16384

noncomputable section

namespace Cert.Moe

open Idealize.ShloMosaic Idealize.ShloMosaic.TcCoe

/-! A gather of whole matrices, one number each. -/

/-- The dimension numbers of a gather of `R` matrices from `N`. -/
abbrev matrixDims (N R A B : ℕ) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

theorem gather_matrix {α : Type} {N R A B : ℕ} (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (b : Fin R) (k : Fin A) (f : Fin B) (e : Fin N)
    (he : idx (ix2 b (0 : Fin 1)) = BitVec.ofNat 32 e.val) (hN : N < 2 ^ 31) :
    Host.gather (matrixDims N R A B wf) x idx (ix3 b k f) = x (ix3 e k f) := by
  have hk : ∀ a : Fin 3, a ∈ (matrixDims N R A B wf).operandBatchingDims → False := fun a h => List.not_mem_nil h
  unfold Host.gather
  refine congrArg x (funext fun a => Fin.ext ?_)
  match a with
  | ⟨0, _⟩ =>
    show (matrixDims N R A B wf).start (ix3 b k f) idx 0 + (matrixDims N R A B wf).batchCoord (ix3 b k f) 0 + (matrixDims N R A B wf).offCoord (ix3 b k f) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (matrixDims N R A B wf).startIndexMap from List.mem_singleton.mpr rfl)]
    have hsi : (matrixDims N R A B wf).siIdx (ix3 b k f) ⟨List.idxOf (0 : Fin 3) (matrixDims N R A B wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    have hlt := e.isLt
    rw [hsi, he, StableHlo.Predicate.toInt_ofNat_small _ (by omega)]
    show min e.val (N - 1) = e.val
    omega
  | ⟨1, _⟩ =>
    show (matrixDims N R A B wf).start (ix3 b k f) idx 1 + (matrixDims N R A B wf).batchCoord (ix3 b k f) 1 + (matrixDims N R A B wf).offCoord (ix3 b k f) 1 = k.val
    rw [GatherDims.batchCoord_eq_zero _ _ _ List.not_mem_nil]
    unfold GatherDims.start
    rw [dif_neg (show ¬ (1 : Fin 3) ∈ (matrixDims N R A B wf).startIndexMap by show ¬ (1 : Fin 3) ∈ ([0] : List (Fin 3)); decide)]
    show 0 + 0 + k.val = k.val
    omega
  | ⟨2, _⟩ =>
    show (matrixDims N R A B wf).start (ix3 b k f) idx 2 + (matrixDims N R A B wf).batchCoord (ix3 b k f) 2 + (matrixDims N R A B wf).offCoord (ix3 b k f) 2 = f.val
    rw [GatherDims.batchCoord_eq_zero _ _ _ List.not_mem_nil]
    unfold GatherDims.start
    rw [dif_neg (show ¬ (2 : Fin 3) ∈ (matrixDims N R A B wf).startIndexMap by show ¬ (2 : Fin 3) ∈ ([0] : List (Fin 3)); decide)]
    show 0 + 0 + f.val = f.val
    omega

section
open Cert.Reference3Ideal Cert.Reference3Ideal.Gen

/-- The expert numbers as the gathers take them: a negative one counts from the end. -/
def numbers (t : S576.Idx → BitVec 32) : IVec S576x1 32 :=
  broadcastInDim S576x1 ![0] bcast_S576_S576x1_0 (select (cmpi .slt t (broadcastInDim S576 ![] bcast_S_S576 (constantI S_ 32 0#32)))
    (addi t (broadcastInDim S576 ![] bcast_S_S576 (constantI S_ 32 32#32))) t)

theorem numbers_apply (t : S576.Idx → BitVec 32) (b : Fin 576) (e : Fin 32) (h : (t (ix1 b)).toNat = e.val) :
    numbers t (ix2 b (0 : Fin 1)) = BitVec.ofNat 32 e.val := by
  have hn : t (ix1 b) = BitVec.ofNat 32 e.val := BitVec.eq_of_toNat_eq (by rw [h, BitVec.toNat_ofNat]; have := e.isLt; omega)
  have hm : ∀ e : Fin 32, (bif (BitVec.ofNat 32 e.val).slt 0#32 then BitVec.ofNat 32 e.val + 32#32 else BitVec.ofNat 32 e.val) = BitVec.ofNat 32 e.val := by decide
  have en : numbers t (ix2 b (0 : Fin 1)) = if BitVec.ofBool ((t (ix1 b)).slt 0#32) = 1#1 then t (ix1 b) + 32#32 else t (ix1 b) := by
    unfold numbers
    pointwise
    rfl
  rw [en, hn]
  have := hm e
  revert this
  cases (BitVec.ofNat 32 e.val).slt 0#32 <;> intro h <;> exact h

/-- The first products with their biases. -/
def refUp (t : S576.Idx → BitVec 32) (a2 : FVec Ideal S147456x1024 .f32) (a3 : FVec Ideal S4x32x1024x2048 .f32) (a4 : FVec Ideal S4x32x2048 .f32) : FVec Ideal S576x256x2048 .f32 :=
  addf (Host.dotGeneral (F := Ideal) (φ₁ := .f32) (φ₂ := .f32) dot_S576x256x1024_S576x1024x2048_S576x256x2048_2_1_1_2_0_0 none (shapeCast S576x256x1024 a2 shapeCasts_S147456x1024_S576x256x1024)
      (Host.gather gather_S32x1024x2048_S576x1_S576x1024x2048_12_0_n_n_0_1_110242048 (shapeCast S32x1024x2048 (extractStridedSlice S1x32x1024x2048 ![3, 0, 0, 0] a3 slices_S4x32x1024x2048_S1x32x1024x2048_3_0_0_0) shapeCasts_S1x32x1024x2048_S32x1024x2048) (numbers t)))
    (broadcastInDim S576x256x2048 ![0, 1, 2] bcast_S576x1x2048_S576x256x2048_0_1_2 (broadcastInDim S576x1x2048 ![0, 2] bcast_S576x2048_S576x1x2048_0_2
      (Host.gather gather_S32x2048_S576x1_S576x2048_1_0_n_n_0_1_12048 (shapeCast S32x2048 (extractStridedSlice S1x32x2048 ![3, 0, 0] a4 slices_S4x32x2048_S1x32x2048_3_0_0) shapeCasts_S1x32x2048_S32x2048) (numbers t))))

theorem refUp_apply (t : S576.Idx → BitVec 32) (a2 : FVec Ideal S147456x1024 .f32) (a3 : FVec Ideal S4x32x1024x2048 .f32) (a4 : FVec Ideal S4x32x2048 .f32)
    (b : Fin 576) (r : Fin 256) (j : Fin 2048) (e : Fin 32) (h : (t (ix1 b)).toNat = e.val) :
    refUp t a2 a3 a4 (ix3 b r j) = (∑ k : Fin 1024, a2 (ix2 (⟨b.val * 256 + r.val, by omega⟩ : Fin 147456) k) * a3 (ix4 (3 : Fin 4) e k j)) + a4 (ix3 (3 : Fin 4) e j) := by
  have hw : ∀ k : Fin 1024, Host.gather gather_S32x1024x2048_S576x1_S576x1024x2048_12_0_n_n_0_1_110242048 (shapeCast S32x1024x2048 (extractStridedSlice S1x32x1024x2048 ![3, 0, 0, 0] a3 slices_S4x32x1024x2048_S1x32x1024x2048_3_0_0_0) shapeCasts_S1x32x1024x2048_S32x1024x2048) (numbers t) (ix3 b k j)
      = a3 (ix4 (3 : Fin 4) e k j) := fun k =>
    (gather_matrix _ _ (numbers t) b k j e (numbers_apply t b e h) (by norm_num)).trans (by pointwise)
  have hb : Host.gather gather_S32x2048_S576x1_S576x2048_1_0_n_n_0_1_12048 (shapeCast S32x2048 (extractStridedSlice S1x32x2048 ![3, 0, 0] a4 slices_S4x32x2048_S1x32x2048_3_0_0) shapeCasts_S1x32x2048_S32x2048) (numbers t) (ix2 b j)
      = a4 (ix3 (3 : Fin 4) e j) :=
    (Routing.gather_row _ rfl rfl rfl rfl rfl _ (numbers t) b j e (numbers_apply t b e h) (by norm_num)).trans (by pointwise)
  unfold refUp
  generalize Host.gather gather_S32x1024x2048_S576x1_S576x1024x2048_12_0_n_n_0_1_110242048 _ _ = w at hw ⊢
  generalize Host.gather gather_S32x2048_S576x1_S576x2048_1_0_n_n_0_1_12048 _ _ = v at hb ⊢
  rw [← hb]
  simp only [← hw]
  pointwise

/-- The unit between the products. -/
def refGated (u : FVec Ideal S576x256x2048 .f32) : FVec Ideal S576x256x1024 .f32 :=
  mulf (mulf (minimumf (extractStridedSlice S576x256x1024 ![0, 0, 0] u slices_S576x256x2048_S576x256x1024_0_0_0) (broadcastInDim S576x256x1024 ![] bcast_S_S576x256x1024 (constant (F := Ideal) S_ .f32 0x40E00000#32)))
      (Host.divf (broadcastInDim S576x256x1024 ![] bcast_S_S576x256x1024 (constant (F := Ideal) S_ .f32 0x3F800000#32))
        (addf (broadcastInDim S576x256x1024 ![] bcast_S_S576x256x1024 (constant (F := Ideal) S_ .f32 0x3F800000#32))
          (Host.exp (Host.negf (mulf (broadcastInDim S576x256x1024 ![] bcast_S_S576x256x1024 (constant (F := Ideal) S_ .f32 0x3FD9DB23#32))
            (minimumf (extractStridedSlice S576x256x1024 ![0, 0, 0] u slices_S576x256x2048_S576x256x1024_0_0_0) (broadcastInDim S576x256x1024 ![] bcast_S_S576x256x1024 (constant (F := Ideal) S_ .f32 0x40E00000#32)))))))))
    (addf (minimumf (broadcastInDim S576x256x1024 ![] bcast_S_S576x256x1024 (constant (F := Ideal) S_ .f32 0x40E00000#32))
        (maximumf (broadcastInDim S576x256x1024 ![] bcast_S_S576x256x1024 (constant (F := Ideal) S_ .f32 0xC0E00000#32)) (extractStridedSlice S576x256x1024 ![0, 0, 1024] u slices_S576x256x2048_S576x256x1024_0_0_1024)))
      (broadcastInDim S576x256x1024 ![] bcast_S_S576x256x1024 (constant (F := Ideal) S_ .f32 0x3F800000#32)))

theorem refGated_apply (u : FVec Ideal S576x256x2048 .f32) (b : Fin 576) (r : Fin 256) (f : Fin 1024) :
    refGated u (ix3 b r f) = gated (fun j => u (ix3 b r j)) f := by
  unfold refGated gated
  dsimp only
  have e0 : (extractStridedSlice S576x256x1024 ![0, 0, 0] u slices_S576x256x2048_S576x256x1024_0_0_0 : FVec Ideal S576x256x1024 .f32) (ix3 b r f) = u (ix3 b r (⟨f.val, by omega⟩ : Fin 2048)) := by pointwise
  have e1 : (extractStridedSlice S576x256x1024 ![0, 0, 1024] u slices_S576x256x2048_S576x256x1024_0_0_1024 : FVec Ideal S576x256x1024 .f32) (ix3 b r f) = u (ix3 b r (⟨1024 + f.val, by omega⟩ : Fin 2048)) := by pointwise
  rw [← e0, ← e1]
  rfl

/-- The second products with their biases. -/
def refDown (t : S576.Idx → BitVec 32) (g : FVec Ideal S576x256x1024 .f32) (a5 : FVec Ideal S4x32x1024x1024 .f32) (a6 : FVec Ideal S4x32x1024 .f32) : FVec Ideal S576x256x1024 .f32 :=
  addf (Host.dotGeneral (F := Ideal) (φ₁ := .f32) (φ₂ := .f32) dot_S576x256x1024_S576x1024x1024_S576x256x1024_2_1_1_2_0_0 none g
      (Host.gather gather_S32x1024x1024_S576x1_S576x1024x1024_12_0_n_n_0_1_110241024 (shapeCast S32x1024x1024 (extractStridedSlice S1x32x1024x1024 ![3, 0, 0, 0] a5 slices_S4x32x1024x1024_S1x32x1024x1024_3_0_0_0) shapeCasts_S1x32x1024x1024_S32x1024x1024) (numbers t)))
    (broadcastInDim S576x256x1024 ![0, 1, 2] bcast_S576x1x1024_S576x256x1024_0_1_2 (broadcastInDim S576x1x1024 ![0, 2] bcast_S576x1024_S576x1x1024_0_2
      (Host.gather gather_S32x1024_S576x1_S576x1024_1_0_n_n_0_1_11024 (shapeCast S32x1024 (extractStridedSlice S1x32x1024 ![3, 0, 0] a6 slices_S4x32x1024_S1x32x1024_3_0_0) shapeCasts_S1x32x1024_S32x1024) (numbers t))))

theorem refDown_apply (t : S576.Idx → BitVec 32) (g : FVec Ideal S576x256x1024 .f32) (a5 : FVec Ideal S4x32x1024x1024 .f32) (a6 : FVec Ideal S4x32x1024 .f32)
    (b : Fin 576) (r : Fin 256) (d : Fin 1024) (e : Fin 32) (h : (t (ix1 b)).toNat = e.val) :
    refDown t g a5 a6 (ix3 b r d) = (∑ f : Fin 1024, g (ix3 b r f) * a5 (ix4 (3 : Fin 4) e f d)) + a6 (ix3 (3 : Fin 4) e d) := by
  have hw : ∀ k : Fin 1024, Host.gather gather_S32x1024x1024_S576x1_S576x1024x1024_12_0_n_n_0_1_110241024 (shapeCast S32x1024x1024 (extractStridedSlice S1x32x1024x1024 ![3, 0, 0, 0] a5 slices_S4x32x1024x1024_S1x32x1024x1024_3_0_0_0) shapeCasts_S1x32x1024x1024_S32x1024x1024) (numbers t) (ix3 b k d)
      = a5 (ix4 (3 : Fin 4) e k d) := fun k =>
    (gather_matrix _ _ (numbers t) b k d e (numbers_apply t b e h) (by norm_num)).trans (by pointwise)
  have hb : Host.gather gather_S32x1024_S576x1_S576x1024_1_0_n_n_0_1_11024 (shapeCast S32x1024 (extractStridedSlice S1x32x1024 ![3, 0, 0] a6 slices_S4x32x1024_S1x32x1024_3_0_0) shapeCasts_S1x32x1024_S32x1024) (numbers t) (ix2 b d)
      = a6 (ix3 (3 : Fin 4) e d) :=
    (Routing.gather_row _ rfl rfl rfl rfl rfl _ (numbers t) b d e (numbers_apply t b e h) (by norm_num)).trans (by pointwise)
  unfold refDown
  generalize Host.gather gather_S32x1024x1024_S576x1_S576x1024x1024_12_0_n_n_0_1_110241024 _ _ = w at hw ⊢
  generalize Host.gather gather_S32x1024_S576x1_S576x1024_1_0_n_n_0_1_11024 _ _ = v at hb ⊢
  rw [← hb]
  simp only [← hw]
  pointwise

/-- Zero past the blocks in use. -/
def refUsed (n : S1.Idx → BitVec 32) (y : FVec Ideal S576x256x1024 .f32) : FVec Ideal S576x256x1024 .f32 :=
  select (broadcastInDim S576x256x1024 ![0, 1, 2] bcast_S576x1x1_S576x256x1024_0_1_2 (cmpi .slt (broadcastInDim S576x1x1 ![0] bcast_S576_S576x1x1_0 (iotaInDim S576 32 0))
      (broadcastInDim S576x1x1 ![0, 1, 2] bcast_S1x1x1_S576x1x1_0_1_2 (broadcastInDim S1x1x1 ![2] bcast_S1_S1x1x1_2 n))))
    y (broadcastInDim S576x256x1024 ![] bcast_S_S576x256x1024 (constant (F := Ideal) S_ .f32 0x00000000#32))

theorem refUsed_apply (n : S1.Idx → BitVec 32) (y : FVec Ideal S576x256x1024 .f32) (b : Fin 576) (r : Fin 256) (d : Fin 1024)
    (hn : (n (ix1 (0 : Fin 1))).toNat < 2147483648) :
    refUsed n y (ix3 b r d) = if b.val < (n (ix1 (0 : Fin 1))).toNat then y (ix3 b r d) else 0 := by
  have hs : (BitVec.ofNat 32 b.val).slt (n (ix1 (0 : Fin 1))) = decide (b.val < (n (ix1 (0 : Fin 1))).toNat) := by
    generalize n (ix1 (0 : Fin 1)) = w at hn
    have hb := b.isLt
    obtain ⟨q, hq⟩ : ∃ q, w.toNat = q := ⟨_, rfl⟩
    rw [hq] at hn ⊢
    have hw : w = BitVec.ofNat 32 q := BitVec.eq_of_toNat_eq (by rw [hq, BitVec.toNat_ofNat]; omega)
    rw [hw]
    unfold BitVec.slt
    rw [StableHlo.Predicate.toInt_ofNat_small _ (by omega), StableHlo.Predicate.toInt_ofNat_small _ (by omega)]
    simp only [Nat.cast_lt]
  show (if BitVec.ofBool ((BitVec.ofNat 32 b.val).slt (n _)) = 1#1 then y (ix3 b r d) else Ideal.ofBits .f32 0x00000000#32) = _
  rw [Ideal.ofBits_zero_f32]
  have en : ∀ i : S1.Idx, n i = n (ix1 (0 : Fin 1)) := fun i => congrArg n (funext fun a => by
    match a with
    | ⟨0, _⟩ => exact Subsingleton.elim (α := Fin 1) _ _)
  rw [en, hs]
  by_cases hb : b.val < (n (ix1 (0 : Fin 1))).toNat
  · rw [decide_eq_true hb, if_pos hb]; rfl
  · rw [decide_eq_false hb, if_neg hb]; rfl

theorem reference_eq (m : (ℓ : Loc nD τ sig) → Buf (Elt Ideal) ℓ) (c : Dev nD) :
    Value.res_main_v68 (F := Ideal) m c
      = shapeCast S1179648x128 (refUsed (m ((c.tc : Thread nD τ).loc main_arg1)) (refDown (m ((c.tc : Thread nD τ).loc main_arg0))
          (refGated (refUp (m ((c.tc : Thread nD τ).loc main_arg0)) (m ((c.tc : Thread nD τ).loc main_arg2)) (m ((c.tc : Thread nD τ).loc main_arg3)) (m ((c.tc : Thread nD τ).loc main_arg4))))
          (m ((c.tc : Thread nD τ).loc main_arg5)) (m ((c.tc : Thread nD τ).loc main_arg6)))) shapeCasts_S576x256x1024_S1179648x128 := by
  unfold Value.res_main_v68 refUsed refDown refGated refUp numbers
  rfl

/-- What the experts give: tile row `8 J + s` of block `b` is row `J`'s lanes `128 s …`, through the block's expert. -/
def spec (t : S576.Idx → BitVec 32) (n : S1.Idx → BitVec 32) (a2 : S147456x1024.Idx → EReal) (a3 : S4x32x1024x2048.Idx → EReal)
    (a4 : S4x32x2048.Idx → EReal) (a5 : S4x32x1024x1024.Idx → EReal) (a6 : S4x32x1024.Idx → EReal) (b : Fin 576) (r : Fin 256) (d : Fin 1024) : EReal :=
  if b.val < (n (ix1 (0 : Fin 1))).toNat then
    expertRow (fun k => a2 (ix2 (⟨b.val * 256 + r.val, by omega⟩ : Fin 147456) k))
      (fun k j => a3 (ix4 (3 : Fin 4) (⟨min (t (ix1 b)).toNat 31, by omega⟩ : Fin 32) k j))
      (fun j => a4 (ix3 (3 : Fin 4) (⟨min (t (ix1 b)).toNat 31, by omega⟩ : Fin 32) j))
      (fun k j => a5 (ix4 (3 : Fin 4) (⟨min (t (ix1 b)).toNat 31, by omega⟩ : Fin 32) k j))
      (fun j => a6 (ix3 (3 : Fin 4) (⟨min (t (ix1 b)).toNat 31, by omega⟩ : Fin 32) j)) d
  else 0

/-- The same as the array of tiles. -/
def specTiles (t : S576.Idx → BitVec 32) (n : S1.Idx → BitVec 32) (a2 : S147456x1024.Idx → EReal) (a3 : S4x32x1024x2048.Idx → EReal)
    (a4 : S4x32x2048.Idx → EReal) (a5 : S4x32x1024x1024.Idx → EReal) (a6 : S4x32x1024.Idx → EReal) : S1179648x128.Idx → EReal := fun i =>
  spec t n a2 a3 a4 a5 a6 (⟨(i 0).val / 2048, by have h : (i 0).val < 1179648 := (i 0).isLt; omega⟩ : Fin 576)
    (⟨(i 0).val % 2048 / 8, by omega⟩ : Fin 256) (⟨(i 0).val % 8 * 128 + (i 1).val, by have h : (i 1).val < 128 := (i 1).isLt; omega⟩ : Fin 1024)

theorem tiles_cast (y : S576x256x1024.Idx → EReal) (g : Fin 1179648) (l : Fin 128) :
    shapeCast S1179648x128 y shapeCasts_S576x256x1024_S1179648x128 (ix2 g l)
      = y (ix3 (⟨g.val / 2048, by omega⟩ : Fin 576) (⟨g.val % 2048 / 8, by omega⟩ : Fin 256) (⟨g.val % 8 * 128 + l.val, by omega⟩ : Fin 1024)) := by
  pointwise
  have e : g.val / 8 % 256 = g.val % 2048 / 8 := by omega
  simp only [e]

theorem reference_value (m : (ℓ : Loc nD τ sig) → Buf (Elt Ideal) ℓ) (c : Dev nD)
    (ht : ∀ b : Fin 576, ((m ((c.tc : Thread nD τ).loc main_arg0) : S576.Idx → BitVec 32) (ix1 b)).toNat < 32)
    (hn : ((m ((c.tc : Thread nD τ).loc main_arg1) : S1.Idx → BitVec 32) (ix1 (0 : Fin 1))).toNat < 2147483648) :
    Value.res_main_v68 (F := Ideal) m c
      = specTiles (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) := by
  rw [reference_eq]
  funext (i : S1179648x128.Idx)
  obtain ⟨g, l, rfl⟩ : ∃ (g : Fin 1179648) (l : Fin 128), i = ix2 g l := ⟨i 0, i 1, funext fun a => by
    match a with
    | ⟨0, _⟩ => rfl
    | ⟨1, _⟩ => rfl⟩
  rw [tiles_cast, refUsed_apply _ _ _ _ _ hn]
  show _ = spec _ _ _ _ _ _ _ (⟨g.val / 2048, _⟩ : Fin 576) (⟨g.val % 2048 / 8, _⟩ : Fin 256) (⟨g.val % 8 * 128 + l.val, _⟩ : Fin 1024)
  generalize (⟨g.val / 2048, _⟩ : Fin 576) = b
  generalize (⟨g.val % 2048 / 8, _⟩ : Fin 256) = r
  generalize (⟨g.val % 8 * 128 + l.val, _⟩ : Fin 1024) = d
  unfold spec expertRow
  have he : ((m ((c.tc : Thread nD τ).loc main_arg0) : S576.Idx → BitVec 32) (ix1 b)).toNat
      = (⟨min ((m ((c.tc : Thread nD τ).loc main_arg0) : S576.Idx → BitVec 32) (ix1 b)).toNat 31, by omega⟩ : Fin 32).val := by
    have := ht b
    show _ = min _ 31
    omega
  rw [refDown_apply _ _ _ _ b r d _ he]
  refine if_congr Iff.rfl (congrArg (· + _) (Finset.sum_congr rfl fun f _ => congrArg (· * _) ?_)) rfl
  rw [refGated_apply]
  exact congrArg (gated · f) (funext fun j => refUp_apply _ _ _ _ b r j _ he)

end

end Cert.Moe

end
-- ==== Proof.MoeValue.lean ====
/- The experts' program's result: block by block, the rows of the specification. -/
module

public import proofs.«01_k».proof.Proof.MoeRun
public import proofs.«01_k».proof.Proof.MoeReference

@[expose] public section

set_option maxRecDepth 16384
set_option Elab.async false

noncomputable section

namespace Cert.Moe

open Cert.Kernel3Ideal Cert.Kernel3Ideal.Gen
open Idealize.ShloMosaic
open Idealize.ShloMosaic.TcCoe
open Idealize.SL Idealize.SL.RA Idealize.SL.Sem
open Idealize.ShloMosaic.Pipeline (Dat Cfg Window)

variable (m : (ℓ : Loc nD τ sig) → Buf (Elt Ideal) ℓ)

/-! The host's reshapes of the arguments. -/

theorem V_v0 (c : Dev nD) : V m c main_v0 = (shapeCast S1179648x128 (m ((c : Thread nD τ).loc main_arg2) : S147456x1024.Idx → EReal) shapeCasts_S147456x1024_S1179648x128 : S1179648x128.Idx → EReal) := by
  show StableHlo.after hostOps0 (fun b => m (c, b)) main_v0 = _
  after_reads_simp
  rfl
theorem V_v1 (c : Dev nD) : V m c main_v1 = (shapeCast S4x32x1x2048 (m ((c : Thread nD τ).loc main_arg4) : S4x32x2048.Idx → EReal) shapeCasts_S4x32x2048_S4x32x1x2048 : S4x32x1x2048.Idx → EReal) := by
  show StableHlo.after hostOps0 (fun b => m (c, b)) main_v1 = _
  after_reads_simp
  rfl
theorem V_v2 (c : Dev nD) : V m c main_v2 = (shapeCast S4x32x1x1024 (m ((c : Thread nD τ).loc main_arg6) : S4x32x1024.Idx → EReal) shapeCasts_S4x32x1024_S4x32x1x1024 : S4x32x1x1024.Idx → EReal) := by
  show StableHlo.after hostOps0 (fun b => m (c, b)) main_v2 = _
  after_reads_simp
  rfl

theorem rows_cast (x : S147456x1024.Idx → EReal) (b : Fin 576) (r : Fin 256) (k : Fin 1024) (h : b.val * 2048 + (8 * r.val + k.val / 128) < 1179648) :
    shapeCast S1179648x128 x shapeCasts_S147456x1024_S1179648x128 (ix2 (⟨b.val * 2048 + (8 * r.val + k.val / 128), h⟩ : Fin 1179648) (⟨k.val % 128, by omega⟩ : Fin 128))
      = x (ix2 (⟨b.val * 256 + r.val, by omega⟩ : Fin 147456) k) := by
  pointwise
  refine congrArg x (congrArg₂ ix2 (Fin.ext ?_) (Fin.ext ?_)) <;> (try dsimp only) <;> omega
theorem upBias_cast (x : S4x32x2048.Idx → EReal) (l : Fin 4) (e : Fin 32) (j : Fin 2048) :
    shapeCast S4x32x1x2048 x shapeCasts_S4x32x2048_S4x32x1x2048 (ix4 l e (0 : Fin 1) j) = x (ix3 l e j) := by
  pointwise
theorem downBias_cast (x : S4x32x1024.Idx → EReal) (l : Fin 4) (e : Fin 32) (j : Fin 1024) :
    shapeCast S4x32x1x1024 x shapeCasts_S4x32x1024_S4x32x1x1024 (ix4 l e (0 : Fin 1) j) = x (ix3 l e j) := by
  pointwise

variable (hg : Good (tables m)) (c : Dev nD)

/-- The specification at the launch memory's arguments. -/
abbrev specAt (b : Fin 576) (r : Fin 256) (d : Fin 1024) : EReal :=
  spec (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) b r d
abbrev specTilesAt : S1179648x128.Idx → EReal :=
  specTiles (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem count_eq (c : Dev nD) : ((m ((c : Thread nD τ).loc main_arg1) : S1.Idx → BitVec 32) (ix1 (0 : Fin 1))).toNat = count (tables m) := by
  obtain rfl : c = 0 := Subsingleton.elim (α := Fin 1) c 0
  show _ = ((m (((0 : Dev nD) : Thread nD τ).loc main_arg1) : S1.Idx → BitVec 32) entry₁).toNat
  rw [one_entry (ix1 (0 : Fin 1))]
theorem expert_eq (c : Dev nD) (b : Fin 576) : ((m ((c : Thread nD τ).loc main_arg0) : S576.Idx → BitVec 32) (ix1 b)).toNat = expert (tables m) b := by
  obtain rfl : c = 0 := Subsingleton.elim (α := Fin 1) c 0
  exact congrArg BitVec.toNat (at_entry _ _ b rfl)

/-- The rows of a block in use. -/
theorem used_rows (t : Fin (cfgA hg).N) (ht : t.val < count (tables m)) (r : Fin 256) (d : Fin 1024) :
    rows (F := Ideal) (iblk hg (V m) c 0 t) (k0_pay7 (F := Ideal) (iblk hg (V m) c 1 t)) (iblk hg (V m) c 2 t) (k0_pay8 (F := Ideal) (iblk hg (V m) c 3 t)) (iblk hg (V m) c 4 t) (ix2 r d)
      = specAt m c (pos hg t) r d := by
  have he : (⟨min ((m ((c : Thread nD τ).loc main_arg0) : S576.Idx → BitVec 32) (ix1 (pos hg t))).toNat 31, by omega⟩ : Fin 32) = ⟨expert (tables m) (pos hg t), expert_lt hg _⟩ := by
    refine Fin.ext ?_
    show min _ 31 = expert (tables m) (pos hg t)
    rw [expert_eq]
    have := expert_lt hg (pos hg t)
    omega
  have hb : (pos hg t).val < ((m ((c : Thread nD τ).loc main_arg1) : S1.Idx → BitVec 32) (ix1 (0 : Fin 1))).toNat := by rw [count_eq]; exact ht
  refine (rows_apply _ _ _ _ _ r d).trans ?_
  unfold specAt spec
  rw [if_pos hb, he]
  have e0 : ∀ k : Fin 1024, (iblk hg (V m) c 0 t : Vec Ideal S2048x128 .f32) (ix2 (⟨8 * r.val + k.val / 128, by omega⟩ : Fin 2048) (⟨k.val % 128, by omega⟩ : Fin 128))
      = (m ((c : Thread nD τ).loc main_arg2) : S147456x1024.Idx → EReal) (ix2 (⟨(pos hg t).val * 256 + r.val, by omega⟩ : Fin 147456) k) := fun k => by
    refine (rows_block hg (V m) c t _ _).trans ?_
    refine (congrFun (V_v0 m c) _).trans ?_
    refine Eq.trans ?_ (rows_cast _ (pos hg t) r k (by omega))
    refine congrArg _ (congrArg (fun a => ix2 a _) (Fin.ext ?_))
    show min t.val (count (tables m) - 1) * 2048 + (8 * r.val + k.val / 128) = t.val * 2048 + (8 * r.val + k.val / 128)
    rw [Nat.min_eq_left (by omega)]
  have e1 : ∀ (k : Fin 1024) (j : Fin 2048), (iblk hg (V m) c 1 t : Vec Ideal S1x1x1024x2048 .f32) (ix4 0 0 k j)
      = (m ((c : Thread nD τ).loc main_arg3) : S4x32x1024x2048.Idx → EReal) (ix4 (3 : Fin 4) (⟨expert (tables m) (pos hg t), expert_lt hg _⟩ : Fin 32) k j) := fun k j =>
    (up_block hg (V m) c t k j).trans (congrFun (V_arg3 m c) _)
  have e2 : ∀ j : Fin 2048, (iblk hg (V m) c 2 t : Vec Ideal S1x1x1x2048 .f32) (ix4 0 0 0 j)
      = (m ((c : Thread nD τ).loc main_arg4) : S4x32x2048.Idx → EReal) (ix3 (3 : Fin 4) (⟨expert (tables m) (pos hg t), expert_lt hg _⟩ : Fin 32) j) := fun j =>
    ((upBias_block hg (V m) c t 0 j).trans (congrFun (V_v1 m c) _)).trans (upBias_cast _ _ _ j)
  have e3 : ∀ k j : Fin 1024, (iblk hg (V m) c 3 t : Vec Ideal S1x1x1024x1024 .f32) (ix4 0 0 k j)
      = (m ((c : Thread nD τ).loc main_arg5) : S4x32x1024x1024.Idx → EReal) (ix4 (3 : Fin 4) (⟨expert (tables m) (pos hg t), expert_lt hg _⟩ : Fin 32) k j) := fun k j =>
    (down_block hg (V m) c t k j).trans (congrFun (V_arg5 m c) _)
  have e4 : ∀ j : Fin 1024, (iblk hg (V m) c 4 t : Vec Ideal S1x1x1x1024 .f32) (ix4 0 0 0 j)
      = (m ((c : Thread nD τ).loc main_arg6) : S4x32x1024.Idx → EReal) (ix3 (3 : Fin 4) (⟨expert (tables m) (pos hg t), expert_lt hg _⟩ : Fin 32) j) := fun j =>
    ((downBias_block hg (V m) c t 0 j).trans (congrFun (V_v2 m c) _)).trans (downBias_cast _ _ _ j)
  rw [funext e0, funext fun k => funext (e1 k), funext e2, funext fun k => funext (e3 k), funext e4]

/-- The block a point leaves. -/
theorem left_apply (t : Fin (cfgA hg).N) (q : Fin 2048) (l : Fin 128) :
    left hg (V m) c t (ix2 q l) = specAt m c (pos hg t) (⟨q.val / 8, by omega⟩ : Fin 256) (⟨q.val % 8 * 128 + l.val, by omega⟩ : Fin 1024) := by
  unfold left
  split
  · next h => exact used_rows m hg c t h _ _
  · next h =>
    unfold specAt spec
    rw [if_neg (by rw [count_eq]; exact h)]
    exact Ideal.ofBits_zero_f32

theorem tile_at (t : Fin (cfgA hg).N) (q : Fin 2048) (l : Fin 128) :
    (((cfgA hg).win (5 : Fin 6)).blk t).view.emb (ix2 q l) = ix2 (⟨t.val * 2048 + q.val, by have := (pos hg t).isLt; have : (pos hg t).val = t.val := rfl; omega⟩ : Fin 1179648) l := by
  refine funext fun a => Fin.ext ?_
  match a with
  | ⟨0, _⟩ => show cc0_transform_5 (crd hg t) 0 * 2048 + 1 * q.val = t.val * 2048 + q.val; rw [index5]; show t.val * 2048 + 1 * q.val = _; omega
  | ⟨1, _⟩ => show cc0_transform_5 (crd hg t) 1 * 128 + 1 * l.val = l.val; rw [index5]; show 0 * 128 + 1 * l.val = _; omega

/-- Every point writes its block back: the next one's is another. -/
theorem flush5 (t : Fin (cfgA hg).N) : ((cfgA hg).win (5 : Fin 6)).flush t = true := by
  have e : ((cfgA hg).win (5 : Fin 6)).flush t
      = (true && (t.val + 1 = (cfgA hg).N || decide (∃ h : t.val + 1 < (cfgA hg).N, cc0_transform_5 (crd hg ⟨t.val + 1, h⟩) ≠ cc0_transform_5 (crd hg t)))) := rfl
  rw [e, Bool.true_and]
  by_cases h : t.val + 1 = (cfgA hg).N
  · rw [decide_eq_true h, Bool.true_or]
  · rw [decide_eq_true (p := ∃ h : t.val + 1 < (cfgA hg).N, cc0_transform_5 (crd hg ⟨t.val + 1, h⟩) ≠ cc0_transform_5 (crd hg t)), Bool.or_true]
    refine ⟨by have := t.isLt; omega, fun he => ?_⟩
    rw [index5, index5] at he
    have h0 : t.val + 1 = t.val := congrFun he 0
    omega

/-- The block point `t` leaves is the specification's. -/
theorem block_value (t : Fin (cfgA hg).N) (q : Fin 2048) (l : Fin 128) :
    left hg (V m) c t (ix2 q l) = specTilesAt m c (ix2 (⟨t.val * 2048 + q.val, by have := (pos hg t).isLt; have : (pos hg t).val = t.val := rfl; omega⟩ : Fin 1179648) l) := by
  rw [left_apply]
  have e0 : (t.val * 2048 + q.val) / 2048 = t.val := by omega
  have e1 : (t.val * 2048 + q.val) % 2048 / 8 = q.val / 8 := by omega
  have e2 : (t.val * 2048 + q.val) % 8 * 128 + l.val = q.val % 8 * 128 + l.val := by omega
  show specAt m c _ _ _ = specAt m c _ _ _
  congr 1
  · exact Fin.ext e0.symm
  · exact Fin.ext e1.symm
  · exact Fin.ext e2.symm

theorem result_value : ((dats hg (V m) 0 c).arrAt (5 : Fin 6) (cfgA hg).N : S1179648x128.Idx → EReal) = specTilesAt m c := by
  refine Dat.arrAt_eq_of_cover (dats hg (V m) 0 c) (5 : Fin 6) (specTilesAt m c) ?_ ?_
  · intro t _
    refine funext fun (j : S2048x128.Idx) => ?_
    obtain ⟨q, l, rfl⟩ : ∃ (q : Fin 2048) (l : Fin 128), j = ix2 q l := ⟨j 0, j 1, funext fun a => by
      match a with
      | ⟨0, _⟩ => rfl
      | ⟨1, _⟩ => rfl⟩
    refine Eq.trans (show _ = left hg (V m) c t (ix2 q l) from rfl) ?_
    exact (block_value m hg c t q l).trans ((read_at (F := Ideal) (((cfgA hg).win (5 : Fin 6)).blk t).view (specTilesAt m c) (ix2 q l) _ (tile_at m hg t q l)).trans (cast_eq _ _)).symm
  · intro (i : S1179648x128.Idx)
    obtain ⟨g, l, rfl⟩ : ∃ (g : Fin 1179648) (l : Fin 128), i = ix2 g l := ⟨i 0, i 1, funext fun a => by
      match a with
      | ⟨0, _⟩ => rfl
      | ⟨1, _⟩ => rfl⟩
    have ht : g.val / 2048 < (cfgA hg).N := lt_of_lt_of_eq (show g.val / 2048 < 576 by omega) N_0.symm
    refine ⟨⟨g.val / 2048, ht⟩, flush5 m hg _, ?_⟩
    have e : ix2 g l = (((cfgA hg).win (5 : Fin 6)).blk ⟨g.val / 2048, ht⟩).view.emb (ix2 (⟨g.val % 2048, by omega⟩ : Fin 2048) l) :=
      ((tile_at m hg ⟨g.val / 2048, ht⟩ (⟨g.val % 2048, by omega⟩ : Fin 2048) l).trans (congrArg (fun a : Fin 1179648 => ix2 a l) (Fin.ext (by
        show g.val / 2048 * 2048 + g.val % 2048 = g.val; omega)))).symm
    exact (congrArg (· ∈ (((cfgA hg).win (5 : Fin 6)).blk ⟨g.val / 2048, ht⟩).view.set) e).mpr (View.emb_mem_set _ _)

end Cert.Moe

end
-- ==== Proof.Moe.lean ====
/- The experts' claims: the frames of the three programs where the tables are in range, and the kernel's result against
   the reference's. -/
module

public import proofs.«01_k».proof.Defs
public import proofs.«01_k».proof.Proof.MoeValue
public import proofs.«01_k».proof.Proof.Gen.Kernel3

@[expose] public section

set_option maxRecDepth 16384

noncomputable section

namespace Cert.Moe

open Idealize.ShloMosaic Idealize.ShloMosaic.TcCoe Idealize.SL.Sem

instance pre_facts : Cert.Pre_expert_tables.Facts := ⟨by decide, by decide, by decide⟩

section
open Cert.Kernel3Ideal Cert.Kernel3Ideal.Gen
variable {F : FTy → Type} [FloatOps F]

/-- The precondition puts the tables in range. -/
theorem good_of_pre (m : (ℓ : Loc nD τ sig) → Buf (Elt F) ℓ)
    (h : ∀ c : Dev nD, Cert.Pre_expert_tables.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : Good (tables m) where
  expert k := (tables_range _ _ _ _ _ _ _ (h 0) k).1
  pos := (tables_range _ _ _ _ _ _ _ (h 0) 0).2.1
  lt := (tables_range _ _ _ _ _ _ _ (h 0) 0).2.2

end

set_option maxHeartbeats 4000000 in
/-- The kernel and its idealization have one body table (their texts are the same). -/
theorem defs₀_same {F : FTy → Type} [FloatOps F] :
    @Cert.Kernel3.defs₀ F _ _ = @Cert.Kernel3Ideal.defs₀ F _ _ :=
  congrArg Defs.onTc (funext fun l => funext fun a => match l, a with
    | 0, (_, _) => rfl)

set_option maxHeartbeats 4000000 in
/-- So they have one table with the pipeline's own labels, too. -/
theorem defs_same {F : FTy → Type} [FloatOps F] :
    @Cert.Kernel3.defs F _ _ = @Cert.Kernel3Ideal.defs F _ _ :=
  congrArg (Pipeline.defs Cert.Kernel3Ideal.pcfgs) defs₀_same

set_option maxHeartbeats 4000000 in
theorem frame_kernel : Cert.quiescent_Kernel3 := by
  intro m ρ h
  have hg : Good (tables (F := Bits) m) := good_of_pre (F := Bits) m h
  have hr := (θ_run Cert.Kernel3Ideal.defs _ _).mono (fun r h => (⟨fun c => (h.1 c).2, h.2⟩ : (∀ _, _) ∧ _)) (run_result (F := Bits) m ρ hg)
  rw [defs_same]
  exact hr

theorem frame_ideal : Cert.quiescent_Kernel3Ideal := fun m ρ h =>
  (θ_run Cert.Kernel3Ideal.defs _ _).mono (fun _ h => ⟨fun c => (h.1 c).2, h.2⟩) (run_result (F := Ideal) m ρ (good_of_pre m h))

theorem frame_reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem reference_of_tables : Cert.quiescent_Reference3Ideal_pre_expert_tables := fun m ρ _ => frame_reference m ρ trivial

/-- The idealization changes nothing. -/
theorem preserves : Cert.preserves_Kernel3_Kernel3Ideal := trivial

/-- The kernel's result is the reference's. -/
theorem algebraic : Cert.algebraic_Kernel3Ideal_Reference3Ideal := by
  intro m ρ m' ρ' hpre hagree
  have hg := good_of_pre (F := Ideal) m hpre
  refine ⟨fun c => specTilesAt m c, (θ_run Cert.Kernel3Ideal.defs _ _).mono (fun _ h c => ⟨(h.1 c).1.trans (result_value m hg c), (h.1 c).2⟩)
    (run_result m ρ hg), ?_⟩
  refine (θ_run Cert.Reference3Ideal.defs _ _).mono (fun _ h c => ⟨(h c).1.trans ?_, (h c).2⟩)
    (Cert.Reference3Ideal.Value.run (F := Ideal) m' ρ')
  obtain ⟨h0, h1, h2, h3, h4, h5, h6⟩ := hagree c
  refine (reference_value m' c ?_ ?_).trans ?_
  · intro b
    rw [h0]
    exact lt_of_eq_of_lt (expert_eq m c b) (hg.expert b)
  · rw [h1]
    exact (count_eq m c).trans_lt hg.lt
  · rw [h0, h1, h2, h3, h4, h5, h6]

end Cert.Moe

end
-- ==== Proof.lean ====
/- The claims of `proof/Defs.lean`, each proved in its own module under `proof/Proof/`. -/
module

public import proofs.«01_k».proof.Defs
public import proofs.«01_k».proof.Proof.AttentionFrames
public import proofs.«01_k».proof.Proof.Attention
public import proofs.«01_k».proof.Proof.FinalNorm
public import proofs.«01_k».proof.Proof.Moe

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Attention.pre_facts, Moe.pre_facts,
  AttentionFrames.kernel, AttentionFrames.ideal, Attention.ideal_of_finite, AttentionFrames.reference, Attention.reference_of_finite,
  FinalNorm.frame_kernel, FinalNorm.frame_ideal, FinalNorm.frame_reference,
  Moe.frame_kernel, Moe.frame_ideal, Moe.frame_reference, Moe.reference_of_tables,
  AttentionFrames.preserves, Attention.algebraic, FinalNorm.preserves, FinalNorm.algebraic,
  Moe.preserves, Moe.algebraic⟩

end Cert.Proof

end
